-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32x2048x1024 : Shape := ⟨3, ![32, 2048, 1024]⟩
abbrev S32x1024 : Shape := ⟨2, ![32, 1024]⟩
abbrev S1x1024x2816 : Shape := ⟨3, ![1, 1024, 2816]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32x1x1024 : Shape := ⟨3, ![32, 1, 1024]⟩
abbrev S1024x2816 : Shape := ⟨2, ![1024, 2816]⟩
abbrev S32x2048x2048 : Shape := ⟨3, ![32, 2048, 2048]⟩
abbrev S32x128x2048 : Shape := ⟨3, ![32, 128, 2048]⟩
abbrev S32x2048x256 : Shape := ⟨3, ![32, 2048, 256]⟩
abbrev S1x512x1024 : Shape := ⟨3, ![1, 512, 1024]⟩
abbrev S1x1x1024 : Shape := ⟨3, ![1, 1, 1024]⟩
abbrev S512x128 : Shape := ⟨2, ![512, 128]⟩
abbrev S1x512x2048 : Shape := ⟨3, ![1, 512, 2048]⟩
abbrev S1x128x512 : Shape := ⟨3, ![1, 128, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x128 : Shape := ⟨2, ![1, 128]⟩
abbrev S1024x512 : Shape := ⟨2, ![1024, 512]⟩
abbrev S512x512 : Shape := ⟨2, ![512, 512]⟩
abbrev S1x512x128 : Shape := ⟨3, ![1, 512, 128]⟩
abbrev S1024x256 : Shape := ⟨2, ![1024, 256]⟩
abbrev S512x256 : Shape := ⟨2, ![512, 256]⟩
abbrev S128x512 : Shape := ⟨2, ![128, 512]⟩
abbrev S1x512x512 : Shape := ⟨3, ![1, 512, 512]⟩
abbrev S1024x1024 : Shape := ⟨2, ![1024, 1024]⟩

abbrev nBuf : Space → Nat
  | .hbm => 60
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1x1024x2816, .f32⟩
  | .hbm, ⟨4, _⟩ => ⟨S32, .f32⟩
  | .hbm, ⟨5, _⟩ => ⟨S32x64, .f32⟩
  | .hbm, ⟨6, _⟩ => ⟨S2048, .f32⟩
  | .hbm, ⟨7, _⟩ => ⟨S64, .f32⟩
  | .hbm, ⟨8, _⟩ => ⟨S1x64, .f32⟩
  | .hbm, ⟨9, _⟩ => ⟨S32x64, .f32⟩
  | .hbm, ⟨10, _⟩ => ⟨S2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x64, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x64, .f32⟩
  | .hbm, ⟨47, _⟩ => ⟨S1x2048x1x64, .f32⟩
  | .hbm, ⟨48, _⟩ => ⟨S1x2048x2x64, .f32⟩
  | .hbm, ⟨49, _⟩ => ⟨S2048x128, .f32⟩
  | .hbm, ⟨50, _⟩ => ⟨S1x2048x1x64, .f32⟩
  | .hbm, ⟨51, _⟩ => ⟨S1x2048x2x64, .f32⟩
  | .hbm, ⟨52, _⟩ => ⟨S2048x128, .f32⟩
  | .hbm, ⟨53, _⟩ => ⟨S32x1x1024, .f32⟩
  | .hbm, ⟨54, _⟩ => ⟨S32x1x1024, .f32⟩
  | .hbm, ⟨55, _⟩ => ⟨S1024x2816, .f32⟩
  | .hbm, ⟨56, _⟩ => ⟨S1024x2816, .bf16⟩
  | .hbm, ⟨57, _⟩ => ⟨S32x2048x2048, .bf16⟩
  | .hbm, ⟨58, _⟩ => ⟨S32x128x2048, .bf16⟩
  | .hbm, ⟨59, _⟩ => ⟨S32x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x2816, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x128x512, .bf16⟩
  | .local _ .vmem, ⟨14, _⟩ => ⟨S1x128x512, .bf16⟩
  | .local _ .vmem, ⟨15, _⟩ => ⟨S1x512x256, .bf16⟩
  | .local _ .vmem, ⟨16, _⟩ => ⟨S1x512x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49_0 : Ref sig .tc := ⟨.hbm, 57, rfl⟩
abbrev main_v49_1 : Ref sig .tc := ⟨.hbm, 58, rfl⟩
abbrev main_v49_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S32x2048x1024 : Shape := ⟨3, ![32, 2048, 1024]⟩
abbrev S32x1024 : Shape := ⟨2, ![32, 1024]⟩
abbrev S1x1024x2816 : Shape := ⟨3, ![1, 1024, 2816]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S32x2048 : Shape := ⟨2, ![32, 2048]⟩
abbrev S32x2048x1 : Shape := ⟨3, ![32, 2048, 1]⟩
abbrev S32x1x1024 : Shape := ⟨3, ![32, 1, 1024]⟩
abbrev S1024x2816 : Shape := ⟨2, ![1024, 2816]⟩
abbrev S32x2048x2816 : Shape := ⟨3, ![32, 2048, 2816]⟩
abbrev S32x2048x512 : Shape := ⟨3, ![32, 2048, 512]⟩
abbrev S32x2048x8x64 : Shape := ⟨4, ![32, 2048, 8, 64]⟩
abbrev S32x2048x8x32 : Shape := ⟨4, ![32, 2048, 8, 32]⟩
abbrev S32x2048x8x16 : Shape := ⟨4, ![32, 2048, 8, 16]⟩
abbrev S1x2048x1x16 : Shape := ⟨4, ![1, 2048, 1, 16]⟩
abbrev S32x2048x128 : Shape := ⟨3, ![32, 2048, 128]⟩
abbrev S32x2048x2x64 : Shape := ⟨4, ![32, 2048, 2, 64]⟩
abbrev S32x2048x2x32 : Shape := ⟨4, ![32, 2048, 2, 32]⟩
abbrev S32x2048x2x16 : Shape := ⟨4, ![32, 2048, 2, 16]⟩
abbrev S32x2048x2048 : Shape := ⟨3, ![32, 2048, 2048]⟩
abbrev S32x128x2048 : Shape := ⟨3, ![32, 128, 2048]⟩
abbrev S32x2048x64 : Shape := ⟨3, ![32, 2048, 64]⟩
abbrev S32x2048x256 : Shape := ⟨3, ![32, 2048, 256]⟩

abbrev nBuf : Space → Nat
  | .hbm => 198
  | .vmem => 0
  | .smem => 0
  | _ => 0

abbrev hbmTy0_0 (i : Nat) : BufTy := match i % 128 with
  | 0 => ⟨S32x2048x1024, .f32⟩
  | 1 => ⟨S32x1024, .f32⟩
  | 2 => ⟨S32x1024, .f32⟩
  | 3 => ⟨S1x1024x2816, .f32⟩
  | 4 => ⟨S32, .f32⟩
  | 5 => ⟨S32x64, .f32⟩
  | 6 => ⟨S2048, .f32⟩
  | 7 => ⟨S64, .f32⟩
  | 8 => ⟨S1x64, .f32⟩
  | 9 => ⟨S32x64, .f32⟩
  | 10 => ⟨S2048, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S_, .f32⟩
  | 36 => ⟨S32x2048, .f32⟩
  | 37 => ⟨S32x2048x1, .f32⟩
  | 38 => ⟨S_, .f32⟩
  | 39 => ⟨S32x2048x1, .f32⟩
  | 40 => ⟨S32x2048x1, .f32⟩
  | 41 => ⟨S32x2048x1024, .f32⟩
  | 42 => ⟨S32x2048x1024, .f32⟩
  | 43 => ⟨S32x2048x1024, .f32⟩
  | 44 => ⟨S_, .f32⟩
  | 45 => ⟨S32x2048, .f32⟩
  | 46 => ⟨S32x2048x1, .f32⟩
  | 47 => ⟨S_, .f32⟩
  | 48 => ⟨S32x2048x1, .f32⟩
  | 49 => ⟨S32x2048x1, .f32⟩
  | 50 => ⟨S32x2048x1024, .f32⟩
  | 51 => ⟨S32x2048x1024, .f32⟩
  | 52 => ⟨S_, .f32⟩
  | 53 => ⟨S32x2048x1, .f32⟩
  | 54 => ⟨S32x2048x1, .f32⟩
  | 55 => ⟨S32x2048x1, .f32⟩
  | 56 => ⟨S32x2048x1024, .f32⟩
  | 57 => ⟨S32x2048x1024, .f32⟩
  | 58 => ⟨S32x1x1024, .f32⟩
  | 59 => ⟨S_, .f32⟩
  | 60 => ⟨S32x1x1024, .f32⟩
  | 61 => ⟨S32x1x1024, .f32⟩
  | 62 => ⟨S32x2048x1024, .f32⟩
  | 63 => ⟨S32x2048x1024, .f32⟩
  | 64 => ⟨S32x1x1024, .f32⟩
  | 65 => ⟨S32x2048x1024, .f32⟩
  | 66 => ⟨S32x2048x1024, .f32⟩
  | 67 => ⟨S1024x2816, .f32⟩
  | 68 => ⟨S32x2048x2816, .f32⟩
  | 69 => ⟨S32x2048x512, .f32⟩
  | 70 => ⟨S32x2048x8x64, .f32⟩
  | 71 => ⟨S32x2048x8x32, .f32⟩
  | 72 => ⟨S32x2048x8x16, .f32⟩
  | 73 => ⟨S32x2048x8x16, .f32⟩
  | 74 => ⟨S2048x16, .f32⟩
  | 75 => ⟨S1x2048x1x16, .f32⟩
  | 76 => ⟨S2048x16, .f32⟩
  | 77 => ⟨S1x2048x1x16, .f32⟩
  | 78 => ⟨S32x2048x8x16, .f32⟩
  | 79 => ⟨S32x2048x8x16, .f32⟩
  | 80 => ⟨S32x2048x8x16, .f32⟩
  | 81 => ⟨S32x2048x8x16, .f32⟩
  | 82 => ⟨S32x2048x8x16, .f32⟩
  | 83 => ⟨S32x2048x8x16, .f32⟩
  | 84 => ⟨S32x2048x8x16, .f32⟩
  | 85 => ⟨S32x2048x8x16, .f32⟩
  | 86 => ⟨S32x2048x8x16, .f32⟩
  | 87 => ⟨S32x2048x8x16, .f32⟩
  | 88 => ⟨S32x2048x8x32, .f32⟩
  | 89 => ⟨S32x2048x8x32, .f32⟩
  | 90 => ⟨S32x2048x8x16, .f32⟩
  | 91 => ⟨S32x2048x8x16, .f32⟩
  | 92 => ⟨S2048x16, .f32⟩
  | 93 => ⟨S1x2048x1x16, .f32⟩
  | 94 => ⟨S2048x16, .f32⟩
  | 95 => ⟨S1x2048x1x16, .f32⟩
  | 96 => ⟨S32x2048x8x16, .f32⟩
  | 97 => ⟨S32x2048x8x16, .f32⟩
  | 98 => ⟨S32x2048x8x16, .f32⟩
  | 99 => ⟨S32x2048x8x16, .f32⟩
  | 100 => ⟨S32x2048x8x16, .f32⟩
  | 101 => ⟨S32x2048x8x16, .f32⟩
  | 102 => ⟨S32x2048x8x16, .f32⟩
  | 103 => ⟨S32x2048x8x16, .f32⟩
  | 104 => ⟨S32x2048x8x16, .f32⟩
  | 105 => ⟨S32x2048x8x16, .f32⟩
  | 106 => ⟨S32x2048x8x32, .f32⟩
  | 107 => ⟨S32x2048x8x64, .f32⟩
  | 108 => ⟨S32x2048x128, .f32⟩
  | 109 => ⟨S32x2048x2x64, .f32⟩
  | 110 => ⟨S32x2048x2x32, .f32⟩
  | 111 => ⟨S32x2048x2x16, .f32⟩
  | 112 => ⟨S32x2048x2x16, .f32⟩
  | 113 => ⟨S2048x16, .f32⟩
  | 114 => ⟨S1x2048x1x16, .f32⟩
  | 115 => ⟨S2048x16, .f32⟩
  | 116 => ⟨S1x2048x1x16, .f32⟩
  | 117 => ⟨S32x2048x2x16, .f32⟩
  | 118 => ⟨S32x2048x2x16, .f32⟩
  | 119 => ⟨S32x2048x2x16, .f32⟩
  | 120 => ⟨S32x2048x2x16, .f32⟩
  | 121 => ⟨S32x2048x2x16, .f32⟩
  | 122 => ⟨S32x2048x2x16, .f32⟩
  | 123 => ⟨S32x2048x2x16, .f32⟩
  | 124 => ⟨S32x2048x2x16, .f32⟩
  | 125 => ⟨S32x2048x2x16, .f32⟩
  | 126 => ⟨S32x2048x2x16, .f32⟩
  | 127 => ⟨S32x2048x2x32, .f32⟩
  | _ => ⟨S32x2048x1024, .f32⟩

abbrev hbmTy0_1 (i : Nat) : BufTy := match i % 128 with
  | 0 => ⟨S32x2048x2x32, .f32⟩
  | 1 => ⟨S32x2048x2x16, .f32⟩
  | 2 => ⟨S32x2048x2x16, .f32⟩
  | 3 => ⟨S2048x16, .f32⟩
  | 4 => ⟨S1x2048x1x16, .f32⟩
  | 5 => ⟨S2048x16, .f32⟩
  | 6 => ⟨S1x2048x1x16, .f32⟩
  | 7 => ⟨S32x2048x2x16, .f32⟩
  | 8 => ⟨S32x2048x2x16, .f32⟩
  | 9 => ⟨S32x2048x2x16, .f32⟩
  | 10 => ⟨S32x2048x2x16, .f32⟩
  | 11 => ⟨S32x2048x2x16, .f32⟩
  | 12 => ⟨S32x2048x2x16, .f32⟩
  | 13 => ⟨S32x2048x2x16, .f32⟩
  | 14 => ⟨S32x2048x2x16, .f32⟩
  | 15 => ⟨S32x2048x2x16, .f32⟩
  | 16 => ⟨S32x2048x2x16, .f32⟩
  | 17 => ⟨S32x2048x2x32, .f32⟩
  | 18 => ⟨S32x2048x2x64, .f32⟩
  | 19 => ⟨S32x2048x128, .f32⟩
  | 20 => ⟨S32x2048x512, .f32⟩
  | 21 => ⟨S32x2048x512, .f32⟩
  | 22 => ⟨S32x2048x512, .f32⟩
  | 23 => ⟨S32x2048x512, .f32⟩
  | 24 => ⟨S_, .f32⟩
  | 25 => ⟨S32x2048x512, .f32⟩
  | 26 => ⟨S32x2048x512, .f32⟩
  | 27 => ⟨S_, .f32⟩
  | 28 => ⟨S32x2048x512, .f32⟩
  | 29 => ⟨S32x2048x512, .f32⟩
  | 30 => ⟨S32x2048x512, .f32⟩
  | 31 => ⟨S32x2048x512, .f32⟩
  | 32 => ⟨S_, .f32⟩
  | 33 => ⟨S_, .f32⟩
  | 34 => ⟨S_, .f32⟩
  | 35 => ⟨S_, .f32⟩
  | 36 => ⟨S_, .f32⟩
  | 37 => ⟨S32x2048x512, .f32⟩
  | 38 => ⟨S32x2048x512, .f32⟩
  | 39 => ⟨S32x2048x512, .f32⟩
  | 40 => ⟨S32x2048x512, .f32⟩
  | 41 => ⟨S32x2048x512, .f32⟩
  | 42 => ⟨S_, .f32⟩
  | 43 => ⟨S32x2048x512, .f32⟩
  | 44 => ⟨S32x2048x512, .f32⟩
  | 45 => ⟨S_, .f32⟩
  | 46 => ⟨S32x2048x512, .f32⟩
  | 47 => ⟨S32x2048x512, .f32⟩
  | 48 => ⟨S32x2048x512, .f32⟩
  | 49 => ⟨S32x2048x512, .f32⟩
  | 50 => ⟨S32x2048x512, .f32⟩
  | 51 => ⟨S32x2048x512, .f32⟩
  | 52 => ⟨S_, .f32⟩
  | 53 => ⟨S32x2048x512, .f32⟩
  | 54 => ⟨S32x2048x512, .f32⟩
  | 55 => ⟨S_, .f32⟩
  | 56 => ⟨S32x2048x512, .f32⟩
  | 57 => ⟨S32x2048x512, .f32⟩
  | 58 => ⟨S32x2048x512, .f32⟩
  | 59 => ⟨S32x2048x2048, .f32⟩
  | 60 => ⟨S32x2048x128, .f32⟩
  | 61 => ⟨S32x128x2048, .f32⟩
  | 62 => ⟨S32x2048x64, .f32⟩
  | 63 => ⟨S32x2048x64, .f32⟩
  | 64 => ⟨S32x2048x64, .f32⟩
  | 65 => ⟨S32x2048x64, .f32⟩
  | 66 => ⟨S32x2048x256, .f32⟩
  | 67 => ⟨S32x2048x2048, .bf16⟩
  | 68 => ⟨S32x128x2048, .bf16⟩
  | 69 => ⟨S32x2048x256, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_cst_9 : Ref sig .tc := ⟨.hbm, 152, rfl⟩
abbrev main_v138 : Ref sig .tc := ⟨.hbm, 153, rfl⟩
abbrev main_v139 : Ref sig .tc := ⟨.hbm, 154, rfl⟩
abbrev main_cst_10 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_cst_11 : Ref sig .tc := ⟨.hbm, 160, rfl⟩
abbrev main_v144 : Ref sig .tc := ⟨.hbm, 161, rfl⟩
abbrev main_cst_12 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_call0_v0 : Ref sig .tc := ⟨.hbm, 168, rfl⟩
abbrev main_call0_v1 : Ref sig .tc := ⟨.hbm, 169, rfl⟩
abbrev main_call0_cst : Ref sig .tc := ⟨.hbm, 170, rfl⟩
abbrev main_call0_v2 : Ref sig .tc := ⟨.hbm, 171, rfl⟩
abbrev main_call0_v3 : Ref sig .tc := ⟨.hbm, 172, rfl⟩
abbrev main_call0_cst_0 : Ref sig .tc := ⟨.hbm, 173, rfl⟩
abbrev main_call0_v4 : Ref sig .tc := ⟨.hbm, 174, rfl⟩
abbrev main_call0_v5 : Ref sig .tc := ⟨.hbm, 175, rfl⟩
abbrev main_v150 : Ref sig .tc := ⟨.hbm, 176, rfl⟩
abbrev main_v151 : Ref sig .tc := ⟨.hbm, 177, rfl⟩
abbrev main_call1_v0 : Ref sig .tc := ⟨.hbm, 178, rfl⟩
abbrev main_call1_v1 : Ref sig .tc := ⟨.hbm, 179, rfl⟩
abbrev main_call1_cst : Ref sig .tc := ⟨.hbm, 180, rfl⟩
abbrev main_call1_v2 : Ref sig .tc := ⟨.hbm, 181, rfl⟩
abbrev main_call1_v3 : Ref sig .tc := ⟨.hbm, 182, rfl⟩
abbrev main_call1_cst_0 : Ref sig .tc := ⟨.hbm, 183, rfl⟩
abbrev main_call1_v4 : Ref sig .tc := ⟨.hbm, 184, rfl⟩
abbrev main_call1_v5 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x1024 : Shape := ⟨2, ![32, 1024]⟩
abbrev S32x2048x2048 : Shape := ⟨3, ![32, 2048, 2048]⟩
abbrev S32x2048x512 : Shape := ⟨3, ![32, 2048, 512]⟩
abbrev S1x512 : Shape := ⟨2, ![1, 512]⟩
abbrev S1x1024x1024 : Shape := ⟨3, ![1, 1024, 1024]⟩
abbrev S1x1024 : Shape := ⟨2, ![1, 1024]⟩
abbrev S1024x1024 : Shape := ⟨2, ![1024, 1024]⟩
abbrev S32x1x1024 : Shape := ⟨3, ![32, 1, 1024]⟩
abbrev S1x512x2048 : Shape := ⟨3, ![1, 512, 2048]⟩
abbrev S1x512x512 : Shape := ⟨3, ![1, 512, 512]⟩
abbrev S1x512x1024 : Shape := ⟨3, ![1, 512, 1024]⟩
abbrev S1x1x1024 : Shape := ⟨3, ![1, 1, 1024]⟩
abbrev S2x256x768 : Shape := ⟨3, ![2, 256, 768]⟩
abbrev S2x768x256 : Shape := ⟨3, ![2, 768, 256]⟩
abbrev S2x256x256 : Shape := ⟨3, ![2, 256, 256]⟩
abbrev S512x1024 : Shape := ⟨2, ![512, 1024]⟩
abbrev S544x512 : Shape := ⟨2, ![544, 512]⟩
abbrev S7x536x512 : Shape := ⟨3, ![7, 536, 512]⟩
abbrev S512x512 : Shape := ⟨2, ![512, 512]⟩
abbrev S1x128x256 : Shape := ⟨3, ![1, 128, 256]⟩
abbrev S128x256 : Shape := ⟨2, ![128, 256]⟩
abbrev S512 : Shape := ⟨1, ![512]⟩
abbrev S512x1 : Shape := ⟨2, ![512, 1]⟩

abbrev nBuf : Space → Nat
  | .hbm => 14
  | .vmem => 25
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x2048x2048, .bf16⟩
  | .hbm, ⟨3, _⟩ => ⟨S32x2048x512, .f32⟩
  | .hbm, ⟨4, _⟩ => ⟨S32x2048x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S32x1x1024, .f32⟩
  | .hbm, ⟨13, _⟩ => ⟨S32x2048x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S2x256x768, .bf16⟩
  | .local _ .vmem, ⟨18, _⟩ => ⟨S2x768x256, .bf16⟩
  | .local _ .vmem, ⟨19, _⟩ => ⟨S2x256x256, .bf16⟩
  | .local _ .vmem, ⟨20, _⟩ => ⟨S2x256x256, .bf16⟩
  | .local _ .vmem, ⟨21, _⟩ => ⟨S512x1024, .bf16⟩
  | .local _ .vmem, ⟨22, _⟩ => ⟨S544x512, .f32⟩
  | .local _ .vmem, ⟨23, _⟩ => ⟨S7x536x512, .f32⟩
  | .local _ .vmem, ⟨24, _⟩ => ⟨S512x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S32x2048x1024 : Shape := ⟨3, ![32, 2048, 1024]⟩
abbrev S32x1024 : Shape := ⟨2, ![32, 1024]⟩
abbrev S32x2048x2048 : Shape := ⟨3, ![32, 2048, 2048]⟩
abbrev S32x2048x512 : Shape := ⟨3, ![32, 2048, 512]⟩
abbrev S1x512 : Shape := ⟨2, ![1, 512]⟩
abbrev S1x1024x1024 : Shape := ⟨3, ![1, 1024, 1024]⟩
abbrev S1x1024 : Shape := ⟨2, ![1, 1024]⟩
abbrev S512 : Shape := ⟨1, ![512]⟩
abbrev S_ : Shape := ⟨0, ![]⟩
abbrev S32x2048 : Shape := ⟨2, ![32, 2048]⟩
abbrev S32x2048x1 : Shape := ⟨3, ![32, 2048, 1]⟩
abbrev S1x1x512 : Shape := ⟨3, ![1, 1, 512]⟩
abbrev S1024x1024 : Shape := ⟨2, ![1024, 1024]⟩
abbrev S32x1x1024 : Shape := ⟨3, ![32, 1, 1024]⟩
abbrev S1024 : Shape := ⟨1, ![1024]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x2048x2048, .bf16⟩
  | .hbm, ⟨3, _⟩ => ⟨S32x2048x512, .f32⟩
  | .hbm, ⟨4, _⟩ => ⟨S32x2048x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S32x2048x512, .bf16⟩
  | .hbm, ⟨11, _⟩ => ⟨S32x2048x512, .f32⟩
  | .hbm, ⟨12, _⟩ => ⟨S32x2048x512, .bf16⟩
  | .hbm, ⟨13, _⟩ => ⟨S32x2048x512, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x512, .f32⟩
  | .hbm, ⟨32, _⟩ => ⟨S32x2048x512, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S32x2048x1, .f32⟩
  | .hbm, ⟨37, _⟩ => ⟨S32x2048x512, .f32⟩
  | .hbm, ⟨38, _⟩ => ⟨S32x2048x512, .f32⟩
  | .hbm, ⟨39, _⟩ => ⟨S1x1x512, .f32⟩
  | .hbm, ⟨40, _⟩ => ⟨S32x2048x512, .f32⟩
  | .hbm, ⟨41, _⟩ => ⟨S32x2048x512, .f32⟩
  | .hbm, ⟨42, _⟩ => ⟨S1x1x512, .f32⟩
  | .hbm, ⟨43, _⟩ => ⟨S32x2048x512, .f32⟩
  | .hbm, ⟨44, _⟩ => ⟨S32x2048x512, .f32⟩
  | .hbm, ⟨45, _⟩ => ⟨S32x2048x512, .f32⟩
  | .hbm, ⟨46, _⟩ => ⟨S32x2048x512, .f32⟩
  | .hbm, ⟨47, _⟩ => ⟨S_, .f32⟩
  | .hbm, ⟨48, _⟩ => ⟨S32x2048x512, .f32⟩
  | .hbm, ⟨49, _⟩ => ⟨S32x2048x512, .f32⟩
  | .hbm, ⟨50, _⟩ => ⟨S_, .f32⟩
  | .hbm, ⟨51, _⟩ => ⟨S32x2048x512, .f32⟩
  | .hbm, ⟨52, _⟩ => ⟨S32x2048x512, .f32⟩
  | .hbm, ⟨53, _⟩ => ⟨S32x2048x512, .f32⟩
  | .hbm, ⟨54, _⟩ => ⟨S32x2048x512, .f32⟩
  | .hbm, ⟨55, _⟩ => ⟨S32x2048x512, .f32⟩
  | .hbm, ⟨56, _⟩ => ⟨S32x2048x1024, .f32⟩
  | .hbm, ⟨57, _⟩ => ⟨S1024x1024, .f32⟩
  | .hbm, ⟨58, _⟩ => ⟨S32x2048x1024, .f32⟩
  | .hbm, ⟨59, _⟩ => ⟨S_, .f32⟩
  | .hbm, ⟨60, _⟩ => ⟨S32x2048x1024, .f32⟩
  | .hbm, ⟨61, _⟩ => ⟨S32x2048x1024, .f32⟩
  | .hbm, ⟨62, _⟩ => ⟨S32x1x1024, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S32x2048, .f32⟩
  | .hbm, ⟨70, _⟩ => ⟨S32x2048x1, .f32⟩
  | .hbm, ⟨71, _⟩ => ⟨S_, .f32⟩
  | .hbm, ⟨72, _⟩ => ⟨S32x2048x1, .f32⟩
  | .hbm, ⟨73, _⟩ => ⟨S32x2048x1, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | .hbm, ⟨77, _⟩ => ⟨S_, .f32⟩
  | .hbm, ⟨78, _⟩ => ⟨S32x2048, .f32⟩
  | .hbm, ⟨79, _⟩ => ⟨S32x2048x1, .f32⟩
  | .hbm, ⟨80, _⟩ => ⟨S_, .f32⟩
  | .hbm, ⟨81, _⟩ => ⟨S32x2048x1, .f32⟩
  | .hbm, ⟨82, _⟩ => ⟨S32x2048x1, .f32⟩
  | .hbm, ⟨83, _⟩ => ⟨S32x2048x1024, .f32⟩
  | .hbm, ⟨84, _⟩ => ⟨S32x2048x1024, .f32⟩
  | .hbm, ⟨85, _⟩ => ⟨S_, .f32⟩
  | .hbm, ⟨86, _⟩ => ⟨S32x2048x1, .f32⟩
  | .hbm, ⟨87, _⟩ => ⟨S32x2048x1, .f32⟩
  | .hbm, ⟨88, _⟩ => ⟨S32x2048x1, .f32⟩
  | .hbm, ⟨89, _⟩ => ⟨S32x2048x1024, .f32⟩
  | .hbm, ⟨90, _⟩ => ⟨S32x2048x1024, .f32⟩
  | .hbm, ⟨91, _⟩ => ⟨S1x1x1024, .f32⟩
  | .hbm, ⟨92, _⟩ => ⟨S32x2048x1024, .f32⟩
  | .hbm, ⟨93, _⟩ => ⟨S32x2048x1024, .f32⟩
  | .hbm, ⟨94, _⟩ => ⟨S1x1x1024, .f32⟩
  | .hbm, ⟨95, _⟩ => ⟨S32x2048x1024, .f32⟩
  | .hbm, ⟨96, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel3.lean ====
abbrev S32x256x1024 : Shape := ⟨3, ![32, 256, 1024]⟩
abbrev S1x1024 : Shape := ⟨2, ![1, 1024]⟩
abbrev S1x1024x2816 : Shape := ⟨3, ![1, 1024, 2816]⟩
abbrev S1024x2816 : Shape := ⟨2, ![1024, 2816]⟩
abbrev S1024x256 : Shape := ⟨2, ![1024, 256]⟩
abbrev S32x128x256 : Shape := ⟨3, ![32, 128, 256]⟩
abbrev S32x256x256 : Shape := ⟨3, ![32, 256, 256]⟩
abbrev S1x256x1024 : Shape := ⟨3, ![1, 256, 1024]⟩
abbrev S1x128x256 : Shape := ⟨3, ![1, 128, 256]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x256 : Shape := ⟨2, ![128, 256]⟩
abbrev S1x128 : Shape := ⟨2, ![1, 128]⟩
abbrev S1x256x128 : Shape := ⟨3, ![1, 256, 128]⟩

abbrev nBuf : Space → Nat
  | .hbm => 9
  | .vmem => 9
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1024x2816, .f32⟩
  | .hbm, ⟨5, _⟩ => ⟨S1024x2816, .bf16⟩
  | .hbm, ⟨6, _⟩ => ⟨S1024x256, .bf16⟩
  | .hbm, ⟨7, _⟩ => ⟨S32x128x256, .bf16⟩
  | .hbm, ⟨8, _⟩ => ⟨S32x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1024x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x256x256, .bf16⟩
  | .local _ .vmem, ⟨8, _⟩ => ⟨S1x256x256, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32x256x1024 : Shape := ⟨3, ![32, 256, 1024]⟩
abbrev S1x1024 : Shape := ⟨2, ![1, 1024]⟩
abbrev S1x1024x2816 : Shape := ⟨3, ![1, 1024, 2816]⟩
abbrev S_ : Shape := ⟨0, ![]⟩
abbrev S32x256 : Shape := ⟨2, ![32, 256]⟩
abbrev S32x256x1 : Shape := ⟨3, ![32, 256, 1]⟩
abbrev S1024 : Shape := ⟨1, ![1024]⟩
abbrev S1x1x1024 : Shape := ⟨3, ![1, 1, 1024]⟩
abbrev S1024x2816 : Shape := ⟨2, ![1024, 2816]⟩
abbrev S1024x256 : Shape := ⟨2, ![1024, 256]⟩
abbrev S32x256x256 : Shape := ⟨3, ![32, 256, 256]⟩
abbrev S32x256x128 : Shape := ⟨3, ![32, 256, 128]⟩
abbrev S32x128x256 : Shape := ⟨3, ![32, 128, 256]⟩
abbrev S32x256x64 : Shape := ⟨3, ![32, 256, 64]⟩

abbrev nBuf : Space → Nat
  | .hbm => 51
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S32x256x1, .f32⟩
  | .hbm, ⟨25, _⟩ => ⟨S32x256x1024, .f32⟩
  | .hbm, ⟨26, _⟩ => ⟨S32x256x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1024, .f32⟩
  | .hbm, ⟨35, _⟩ => ⟨S1x1x1024, .f32⟩
  | .hbm, ⟨36, _⟩ => ⟨S32x256x1024, .f32⟩
  | .hbm, ⟨37, _⟩ => ⟨S32x256x1024, .f32⟩
  | .hbm, ⟨38, _⟩ => ⟨S1024x2816, .f32⟩
  | .hbm, ⟨39, _⟩ => ⟨S1024x256, .f32⟩
  | .hbm, ⟨40, _⟩ => ⟨S32x256x256, .f32⟩
  | .hbm, ⟨41, _⟩ => ⟨S32x256x128, .f32⟩
  | .hbm, ⟨42, _⟩ => ⟨S32x128x256, .f32⟩
  | .hbm, ⟨43, _⟩ => ⟨S32x256x128, .f32⟩
  | .hbm, ⟨44, _⟩ => ⟨S32x256x64, .f32⟩
  | .hbm, ⟨45, _⟩ => ⟨S32x256x64, .f32⟩
  | .hbm, ⟨46, _⟩ => ⟨S32x256x64, .f32⟩
  | .hbm, ⟨47, _⟩ => ⟨S32x256x64, .f32⟩
  | .hbm, ⟨48, _⟩ => ⟨S32x256x256, .f32⟩
  | .hbm, ⟨49, _⟩ => ⟨S32x128x256, .bf16⟩
  | .hbm, ⟨50, _⟩ => ⟨S32x256x256, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel4.lean ====
abbrev S40x1024 : Shape := ⟨2, ![40, 1024]⟩
abbrev S1x1024x3072 : Shape := ⟨3, ![1, 1024, 3072]⟩
abbrev S1x3072 : Shape := ⟨2, ![1, 3072]⟩
abbrev S1024x3072 : Shape := ⟨2, ![1024, 3072]⟩
abbrev S40x3072 : Shape := ⟨2, ![40, 3072]⟩
abbrev S1024x512 : Shape := ⟨2, ![1024, 512]⟩
abbrev S1x512 : Shape := ⟨2, ![1, 512]⟩
abbrev S40x512 : Shape := ⟨2, ![40, 512]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S40x3072, .f32⟩
  | .local _ .vmem, ⟨0, _⟩ => ⟨S40x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S40x1024 : Shape := ⟨2, ![40, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S40x3072 : Shape := ⟨2, ![40, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S1x1024x3072, .f32⟩
  | .hbm, ⟨2, _⟩ => ⟨S1x3072, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S1024x3072, .f32⟩
  | .hbm, ⟨13, _⟩ => ⟨S40x3072, .f32⟩
  | .hbm, ⟨14, _⟩ => ⟨S3072, .f32⟩
  | .hbm, ⟨15, _⟩ => ⟨S1x3072, .f32⟩
  | .hbm, ⟨16, _⟩ => ⟨S40x3072, .f32⟩
  | .hbm, ⟨17, _⟩ => ⟨S40x3072, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Proj.lean ====
module

public import Idealize.ShloMosaic.Lib.Pointwise

/-! The input projection as plain arithmetic on extended reals: one row of the activations at a time. -/

@[expose] public section
noncomputable section
open Idealize.ShloMosaic Idealize.SL.Sem
namespace Cert.Proj

/-- The mean of a row. -/
def mean (x : Fin 1024 → EReal) : EReal := Ideal.div (∑ k, x k) (Ideal.ofBits FTy.f32 1149239296#32)

/-- The row with its mean taken off, divided by its standard deviation, scaled and shifted. -/
def modulated (x sh sc : Fin 1024 → EReal) (d : Fin 1024) : EReal :=
  (x d - mean x) * Ideal.rsqrt (Ideal.div (∑ k, (x k - mean x) * (x k - mean x)) (Ideal.ofBits FTy.f32 1149239296#32)
    + Ideal.ofBits FTy.f32 897988541#32) * (1 + sc d) + sh d

/-- The projected row. -/
def proj (x sh sc : Fin 1024 → EReal) (w : Fin 1024 → Fin 2816 → EReal) (j : Fin 2816) : EReal :=
  ∑ d, modulated x sh sc d * w d j

/-- The angle of place `q` (a row or a column) at frequency `k`. -/
def phase (q k : ℕ) : EReal :=
  FloatOps.sitofp (F := Ideal) FTy.f32 (BitVec.ofNat 32 q) *
    Ideal.pow (Ideal.ofBits FTy.f32 1176256512#32)
      (Ideal.div (-(Ideal.ofBits FTy.f32 1073741824#32 * FloatOps.sitofp (F := Ideal) FTy.f32 (BitVec.ofNat 32 k)))
        (Ideal.ofBits FTy.f32 1107296256#32))

/-- The rotation angle of position `n` at column `j` of the heads. -/
def ang (n j : ℕ) : EReal := phase (if j % 64 < 32 then n / 64 else n % 64) (j % 16)

/-- The rotated projection at column `j` of the queries and keys. -/
def rope (p : Fin 2816 → EReal) (n : ℕ) (j : ℕ) (hj : j < 640) : EReal :=
  p ⟨j, by omega⟩ * Ideal.cos (ang n j) +
    (if j % 32 < 16 then p ⟨j + 16, by omega⟩ else p ⟨j - 16, by omega⟩) *
      (if j % 32 < 16 then -Ideal.sin (ang n j) else Ideal.sin (ang n j))

/-- A value times its logistic. -/
def gate (y z : EReal) : EReal := y * Ideal.div 1 (1 + Ideal.exp (-z))

/-- The queries' scale, one eighth over the logarithm of two. -/
def qs : EReal := (((1 / 8) * (Real.log 2)⁻¹ : ℝ) : EReal)

/-- One row of the first result: scaled queries, the gated input of the convolution, the two gates. -/
def act (p : Fin 2816 → EReal) (n : ℕ) (j : Fin 2048) : EReal :=
  if h0 : j.val < 512 then rope p n j.val (by omega) * qs
  else if h1 : j.val < 1024 then gate (p ⟨j + 768, by omega⟩) (p ⟨j + 1280, by omega⟩)
  else if h2 : j.val < 1536 then gate (p ⟨j - 256, by omega⟩) (p ⟨j - 256, by omega⟩)
  else gate (p ⟨j + 768, by omega⟩) (p ⟨j + 768, by omega⟩)

/-- One row of the third result: each value head twice. -/
def vals (p : Fin 2816 → EReal) (j : Fin 256) : EReal :=
  p ⟨640 + j / 128 * 64 + j % 64, by omega⟩

theorem ofBits_eighth : Ideal.ofBits FTy.f32 1040187392#32 = ((1 / 8 : ℝ) : EReal) := by
  simp [Ideal.ofBits, Ideal.ieee, -EReal.coe_mul]; norm_num

theorem ofBits_two : Ideal.ofBits FTy.f32 1073741824#32 = ((2 : ℝ) : EReal) := by
  simp [Ideal.ofBits, Ideal.ieee, -EReal.coe_mul]; norm_num

/-- The scale as the reference spells it is the named one. -/
theorem qs_eq : Ideal.div (Ideal.ofBits FTy.f32 1040187392#32) (Ideal.log (Ideal.ofBits FTy.f32 1073741824#32)) = qs := by
  have h : Ideal.log ((2 : ℝ) : EReal) = ((Real.log 2 : ℝ) : EReal) := by
    show (if (2 : ℝ) ≤ 0 then ⊥ else ((Real.log 2 : ℝ) : EReal)) = _
    rw [if_neg (by norm_num)]
  have h0 : ((Real.log 2 : ℝ) : EReal) ≠ 0 := by
    exact_mod_cast (Real.log_pos (by norm_num : (1 : ℝ) < 2)).ne'
  rw [ofBits_eighth, ofBits_two, h, Ideal.div, if_neg h0, qs, EReal.coe_mul, EReal.coe_inv]

theorem sel (j : ℕ) (a b : EReal) : Scalar.select (if j % 32 < 16 then 1#1 else 0#1) a b = if j % 32 < 16 then a else b := by
  split <;> simp [Scalar.select]

theorem ang_row {n j k : ℕ} (h : j % 64 < 32) (hk : k = j % 16) : phase (n / 64) k = ang n j := by
  subst hk; rw [ang, if_pos h]

theorem ang_col {n j k : ℕ} (h : ¬ j % 64 < 32) (hk : k = j % 16) : phase (n % 64) k = ang n j := by
  subst hk; rw [ang, if_neg h]

/-- The first half of a rotated pair, as the reference writes it. -/
theorem rope_lo {p : Fin 2816 → EReal} {n j : ℕ} (hj : j < 640) {a b : Fin 2816} (h : j % 32 < 16) (ha : a.val = j)
    (hb : b.val = j + 16) {θ θ' : EReal} (hθ : θ = ang n j) (hθ' : θ' = ang n j) :
    p a * Ideal.cos θ - p b * Ideal.sin θ' = rope p n j hj := by
  subst hθ hθ'
  rw [rope, if_pos h, if_pos h, sub_eq_add_neg, mul_neg, ← Fin.ext (a := a) (b := ⟨j, by omega⟩) ha,
    ← Fin.ext (a := b) (b := ⟨j + 16, by omega⟩) hb]

/-- The second half of a rotated pair, as the reference writes it. -/
theorem rope_hi {p : Fin 2816 → EReal} {n j : ℕ} (hj : j < 640) {a b : Fin 2816} (h : ¬ j % 32 < 16) (ha : a.val = j)
    (hb : b.val = j - 16) {θ θ' : EReal} (hθ : θ = ang n j) (hθ' : θ' = ang n j) :
    p a * Ideal.cos θ + p b * Ideal.sin θ' = rope p n j hj := by
  subst hθ hθ'
  rw [rope, if_neg h, if_neg h, ← Fin.ext (a := a) (b := ⟨j, by omega⟩) ha,
    ← Fin.ext (a := b) (b := ⟨j - 16, by omega⟩) hb]

/-- The four quarters of a head as the reference lays them out are the rotated head. -/
theorem ladder (p : Fin 2816 → EReal) (n o e t : ℕ) (ht : t < 640) (he : t = o + e) (ho : o % 64 = 0) :
  (if h : e % 64 < 32 then
      if h_1 : e % 64 < 16 then
        p ⟨o + e / 64 * 64 + e % 64, by omega⟩ * Ideal.cos (phase (n / 64) (e % 64)) -
          p ⟨o + 16 + e / 64 * 64 + e % 64, by omega⟩ * Ideal.sin (phase (n / 64) (e % 64))
      else
        p ⟨o + 16 + e / 64 * 64 + (e % 64 - 16), by omega⟩ * Ideal.cos (phase (n / 64) (e % 64 - 16)) +
          p ⟨o + e / 64 * 64 + (e % 64 - 16), by omega⟩ * Ideal.sin (phase (n / 64) (e % 64 - 16))
    else
      if h_1 : e % 64 - 32 < 16 then
        p ⟨o + 32 + e / 64 * 64 + (e % 64 - 32), by omega⟩ * Ideal.cos (phase (n % 64) (e % 64 - 32)) -
          p ⟨o + 48 + e / 64 * 64 + (e % 64 - 32), by omega⟩ * Ideal.sin (phase (n % 64) (e % 64 - 32))
      else
        p ⟨o + 48 + e / 64 * 64 + (e % 64 - 32 - 16), by omega⟩ * Ideal.cos (phase (n % 64) (e % 64 - 32 - 16)) +
          p ⟨o + 32 + e / 64 * 64 + (e % 64 - 32 - 16), by omega⟩ * Ideal.sin (phase (n % 64) (e % 64 - 32 - 16))) =
    rope p n t ht := by
  subst he
  have k : ∀ a b : ℕ, a = b → ∀ q, phase q a = phase q b := fun a b h q => by rw [h]
  by_cases h : e % 64 < 32
  · rw [dif_pos h]
    by_cases h1 : e % 64 < 16
    · rw [dif_pos h1]
      have e1 : phase (n / 64) (e % 64) = ang n (o + e) := ang_row (by omega) (by omega)
      rw [e1]
      refine rope_lo ht ?_ ?_ ?_ rfl rfl
      · omega
      · dsimp only; omega
      · dsimp only; omega
    · rw [dif_neg h1]
      have e1 : phase (n / 64) (e % 64 - 16) = ang n (o + e) := ang_row (by omega) (by omega)
      rw [e1]
      refine rope_hi ht ?_ ?_ ?_ rfl rfl
      · omega
      · dsimp only; omega
      · dsimp only; omega
  · rw [dif_neg h]
    by_cases h1 : e % 64 - 32 < 16
    · rw [dif_pos h1]
      have e1 : phase (n % 64) (e % 64 - 32) = ang n (o + e) := ang_col (by omega) (by omega)
      rw [e1]
      refine rope_lo ht ?_ ?_ ?_ rfl rfl
      · omega
      · dsimp only; omega
      · dsimp only; omega
    · rw [dif_neg h1]
      have e1 : phase (n % 64) (e % 64 - 32 - 16) = ang n (o + e) := ang_col (by omega) (by omega)
      rw [e1]
      refine rope_hi ht ?_ ?_ ?_ rfl rfl
      · omega
      · dsimp only; omega
      · dsimp only; omega

theorem ang_congr {n j j' : ℕ} (h : j % 64 = j' % 64) : ang n j = ang n j' := by
  rw [ang, ang, h, show j % 16 = j' % 16 by omega]

/-- A rotated element as the kernel writes it: the partner chosen by a mask, the sine's sign in its table. -/
theorem rope_sel {p : Fin 2816 → EReal} {n j d : ℕ} (hj : j < 640) {a b₁ b₂ : Fin 2816} (hd : j % 64 = d % 64)
    (ha : a.val = j) (h₁ : d % 32 < 16 → b₁.val = j + 16) (h₂ : ¬ d % 32 < 16 → b₂.val = j - 16) :
    p a * Ideal.cos (ang n d) + Scalar.select (if d % 32 < 16 then 1#1 else 0#1) (p b₁) (p b₂) *
      (if d % 32 < 16 then -Ideal.sin (ang n d) else Ideal.sin (ang n d)) = rope p n j hj := by
  rw [sel, rope, ang_congr hd, show j % 32 = d % 32 by omega, ← Fin.ext (a := a) (b := ⟨j, by omega⟩) ha]
  by_cases h : d % 32 < 16
  · simp only [if_pos h, Fin.ext (a := b₁) (b := ⟨j + 16, by omega⟩) (h₁ h)]
  · simp only [if_neg h, Fin.ext (a := b₂) (b := ⟨j - 16, by omega⟩) (h₂ h)]

section
variable {p : Fin 2816 → EReal} {n : ℕ} {j : Fin 2048} {d : Fin 512}

theorem act_q (e : ℕ) (he : e < 512) (h : j.val = e) : act p n j = rope p n e (by omega) * qs := by
  subst h; rw [act, dif_pos he]

theorem act_u (h : j.val = 512 + d.val) : act p n j = gate (p ⟨1280 + d, by omega⟩) (p ⟨1792 + d, by omega⟩) := by
  rw [act, dif_neg (by omega), dif_pos (by omega)]
  exact congrArg₂ (fun a b => gate (p a) (p b)) (Fin.ext (by dsimp only; omega)) (Fin.ext (by dsimp only; omega))

theorem act_a (h : j.val = 1024 + d.val) : act p n j = gate (p ⟨768 + d, by omega⟩) (p ⟨768 + d, by omega⟩) := by
  rw [act, dif_neg (by omega), dif_neg (by omega), dif_pos (by omega)]
  exact congrArg₂ (fun a b => gate (p a) (p b)) (Fin.ext (by dsimp only; omega)) (Fin.ext (by dsimp only; omega))

theorem act_c (h : j.val = 1536 + d.val) : act p n j = gate (p ⟨2304 + d, by omega⟩) (p ⟨2304 + d, by omega⟩) := by
  rw [act, dif_neg (by omega), dif_neg (by omega), dif_neg (by omega)]
  exact congrArg₂ (fun a b => gate (p a) (p b)) (Fin.ext (by dsimp only; omega)) (Fin.ext (by dsimp only; omega))
end

/-- The projection of row `n` of batch `b`. -/
def pr (X : FVec Ideal ⟨3, ![32, 2048, 1024]⟩ .f32) (SH SC : FVec Ideal ⟨2, ![32, 1024]⟩ .f32)
    (W : FVec Ideal ⟨3, ![1, 1024, 2816]⟩ .f32) (b : Fin 32) (n : Fin 2048) : Fin 2816 → EReal :=
  proj (fun k => X (ix3 b n k)) (fun k => SH (ix2 b k)) (fun k => SC (ix2 b k)) (fun d j => W (ix3 0 d j))

/-- The first result. -/
def actArr (X : FVec Ideal ⟨3, ![32, 2048, 1024]⟩ .f32) (SH SC : FVec Ideal ⟨2, ![32, 1024]⟩ .f32)
    (W : FVec Ideal ⟨3, ![1, 1024, 2816]⟩ .f32) : FVec Ideal ⟨3, ![32, 2048, 2048]⟩ .bf16 :=
  fun i => act (pr X SH SC W (i 0) (i 1)) (i 1).val (i 2)

/-- The second result: the rotated keys, transposed. -/
def keyArr (X : FVec Ideal ⟨3, ![32, 2048, 1024]⟩ .f32) (SH SC : FVec Ideal ⟨2, ![32, 1024]⟩ .f32)
    (W : FVec Ideal ⟨3, ![1, 1024, 2816]⟩ .f32) : FVec Ideal ⟨3, ![32, 128, 2048]⟩ .bf16 :=
  fun i => rope (pr X SH SC W (i 0) (i 2)) (i 2).val (512 + (i 1).val) (by have : (i 1).val < 128 := (i 1).isLt; omega)

/-- The third result. -/
def valArr (X : FVec Ideal ⟨3, ![32, 2048, 1024]⟩ .f32) (SH SC : FVec Ideal ⟨2, ![32, 1024]⟩ .f32)
    (W : FVec Ideal ⟨3, ![1, 1024, 2816]⟩ .f32) : FVec Ideal ⟨3, ![32, 2048, 256]⟩ .bf16 :=
  fun i => vals (pr X SH SC W (i 0) (i 1)) (i 2)

end Cert.Proj
end
-- ==== Proof.KernelBlocks.lean ====
module

public import proofs.«01_k».proof.Proof.Gen.KernelIdeal.Value
public import Idealize.ShloMosaic.Lib.Claim
public import Idealize.ShloMosaic.Lib.StableHlo.RunRead
public import Idealize.ShloMosaic.Lib.Pipeline.ValueKit
public import proofs.«01_k».proof.Proof.Proj

/-! The kernel's input blocks, element by element. -/

@[expose] public section
set_option maxRecDepth 16384
noncomputable section
open Idealize.ShloMosaic Idealize.ShloMosaic.TcCoe Idealize.SL.Sem
namespace Cert.KernelVals
open Cert.KernelIdeal Cert.KernelIdeal.Gen Cert.Proj
variable (m : (ℓ : Loc nD τ sig) → Buf (Elt Ideal) ℓ)

theorem idx : ∀ t : Fin cfg0.N, win0_0.index t = ![t.val / 4, t.val % 4, 0] ∧ win0_1.index t = ![t.val / 4, 0, 0] ∧
   win0_2.index t = ![t.val / 4, 0, 0] ∧ win0_3.index t = ![t.val % 4, 0] ∧ win0_4.index t = ![t.val % 4, 0] ∧
   win0_5.index t = ![0, 0] ∧ win0_6.index t = ![t.val / 4, t.val % 4, 0] ∧ win0_7.index t = ![t.val / 4, 0, t.val % 4] ∧
   win0_8.index t = ![t.val / 4, t.val % 4, 0] ∧ t.val < 128 :=
  (by decide +kernel : ∀ t : Fin grid0.N, _)

theorem b0 (c : Dev nD) (t : Fin cfg0.N) (r : Fin 512) (d : Fin 1024) :
   (show FVec Ideal S1x512x1024 .f32 from iblk m c 0 t) (ix3 0 r d) = (show FVec Ideal S32x2048x1024 .f32 from m ((c : Thread nD τ).loc main_arg0)) (ix3 ⟨t.val / 4, by have := (idx t).2.2.2.2.2.2.2.2.2; omega⟩ ⟨t.val % 4 * 512 + r, by omega⟩ d) := by
  blk_point [iblk, V, idx t]
theorem b5 (c : Dev nD) (t : Fin cfg0.N) (r : Fin 1024) (d : Fin 2816) :
   (show FVec Ideal S1024x2816 .bf16 from iblk m c 5 t) (ix2 r d) = (show FVec Ideal S1x1024x2816 .f32 from m ((c : Thread nD τ).loc main_arg3)) (ix3 0 r d) := by
  blk_point [iblk, V, idx t]

theorem tlt (t : Fin cfg0.N) : t.val < 128 := (idx t).2.2.2.2.2.2.2.2.2

theorem b1 (c : Dev nD) (t : Fin cfg0.N) (d : Fin 1024) :
   (show FVec Ideal S1x1x1024 .f32 from iblk m c 1 t) (ix3 0 0 d) = (show FVec Ideal S32x1024 .f32 from m ((c : Thread nD τ).loc main_arg1)) (ix2 ⟨t.val / 4, by have := tlt t; omega⟩ d) := by
  blk_point [iblk, V, idx t]

theorem b2 (c : Dev nD) (t : Fin cfg0.N) (d : Fin 1024) :
   (show FVec Ideal S1x1x1024 .f32 from iblk m c 2 t) (ix3 0 0 d) = (show FVec Ideal S32x1024 .f32 from m ((c : Thread nD τ).loc main_arg2)) (ix2 ⟨t.val / 4, by have := tlt t; omega⟩ d) := by
  blk_point [iblk, V, idx t]

theorem row_at {n j k : ℕ} (h : j % 64 < 32) (hk : k = j % 16) :
    FloatOps.sitofp (F := Ideal) FTy.f32 (BitVec.ofNat 32 (n / 64)) *
      Ideal.pow (Ideal.ofBits FTy.f32 1176256512#32)
        (Ideal.div (-(Ideal.ofBits FTy.f32 1073741824#32 * FloatOps.sitofp (F := Ideal) FTy.f32 (BitVec.ofNat 32 k)))
          (Ideal.ofBits FTy.f32 1107296256#32)) = ang n j := ang_row h hk

theorem col_at {n j k : ℕ} (h : ¬ j % 64 < 32) (hk : k = j % 16) :
    FloatOps.sitofp (F := Ideal) FTy.f32 (BitVec.ofNat 32 (n % 64)) *
      Ideal.pow (Ideal.ofBits FTy.f32 1176256512#32)
        (Ideal.div (-(Ideal.ofBits FTy.f32 1073741824#32 * FloatOps.sitofp (F := Ideal) FTy.f32 (BitVec.ofNat 32 k)))
          (Ideal.ofBits FTy.f32 1107296256#32)) = ang n j := ang_col h hk

set_option maxHeartbeats 2000000 in
/-- The cosine table. -/
theorem cos_at (c : Dev nD) (n : Fin 2048) (d : Fin 128) :
    (show FVec Ideal S2048x128 .f32 from V m c main_v41) (ix2 n d) = Ideal.cos (ang n.val d.val) := by
  unfold V
  after_reads_simp
  pointwise
  after_reads_simp
  pointwise
  split_ifs
  · rw [row_at (j := d.val) (by omega) (by omega)]
  · rw [row_at (j := d.val) (by omega) (by omega)]
  · rw [col_at (j := d.val) (by omega) (by omega)]
  · rw [col_at (j := d.val) (by omega) (by omega)]

set_option maxHeartbeats 2000000 in
/-- The signed sine table. -/
theorem sin_at (c : Dev nD) (n : Fin 2048) (d : Fin 128) :
    (show FVec Ideal S2048x128 .f32 from V m c main_v44) (ix2 n d)
      = if d.val % 32 < 16 then -Ideal.sin (ang n.val d.val) else Ideal.sin (ang n.val d.val) := by
  unfold V
  after_reads_simp
  pointwise
  after_reads_simp
  pointwise
  split_ifs
  all_goals first
    | omega
    | rw [row_at (j := d.val) (by omega) (by omega)]
    | rw [col_at (j := d.val) (by omega) (by omega)]

theorem b3 (c : Dev nD) (t : Fin cfg0.N) (r : Fin 512) (d : Fin 128) :
    (show FVec Ideal S512x128 .f32 from iblk m c 3 t) (ix2 r d) = Ideal.cos (ang (t.val % 4 * 512 + r.val) d.val) := by
  refine Eq.trans ?_ (cos_at m c ⟨t.val % 4 * 512 + r.val, by omega⟩ d)
  blk_point [iblk, idx t]

theorem b4 (c : Dev nD) (t : Fin cfg0.N) (r : Fin 512) (d : Fin 128) :
    (show FVec Ideal S512x128 .f32 from iblk m c 4 t) (ix2 r d)
      = if d.val % 32 < 16 then -Ideal.sin (ang (t.val % 4 * 512 + r.val) d.val)
        else Ideal.sin (ang (t.val % 4 * 512 + r.val) d.val) := by
  refine Eq.trans ?_ (sin_at m c ⟨t.val % 4 * 512 + r.val, by omega⟩ d)
  blk_point [iblk, idx t]

end Cert.KernelVals
end
-- ==== Proof.KernelVals.lean ====
module

public import proofs.«01_k».proof.Proof.KernelBlocks

/-! The kernel's three result arrays, element by element. -/

@[expose] public section
set_option maxRecDepth 16384
noncomputable section
open Idealize.ShloMosaic Idealize.ShloMosaic.TcCoe Idealize.SL.Sem
namespace Cert.KernelVals
open Cert.KernelIdeal Cert.KernelIdeal.Gen Cert.Proj
variable (m : (ℓ : Loc nD τ sig) → Buf (Elt Ideal) ℓ)

/-- The mask of the first half of each rotated pair. -/
theorem mask_at (d : Fin 128) :
    k0_pay7 (iota Kind.tc S1x128 32 [1] iota_S1x128_d1_w32) 32#32 (ix2 0 d) = if d.val % 32 < 16 then 1#1 else 0#1 := by
  pointwise [k0_pay7]
  revert d
  decide

/-- The projection of row `r` of point `t`. -/
abbrev prK (c : Dev nD) (t : Fin cfg0.N) (r : Fin 512) : Fin 2816 → EReal :=
  pr (m ((c : Thread nD τ).loc main_arg0)) (m ((c : Thread nD τ).loc main_arg1)) (m ((c : Thread nD τ).loc main_arg2))
    (m ((c : Thread nD τ).loc main_arg3)) ⟨t.val / 4, by have := tlt t; omega⟩ ⟨t.val % 4 * 512 + r.val, by omega⟩

/-- The modulated rows of point `t`. -/
abbrev hK (c : Dev nD) (t : Fin cfg0.N) : FVec Ideal S512x1024 .bf16 :=
  k0_pay4 (iblk m c 0 t) (iblk m c 2 t) (iblk m c 1 t)

theorem pay4_at (x : FVec Ideal S1x512x1024 .f32) (sc sh : FVec Ideal S1x1x1024 .f32) (r : Fin 512) (d : Fin 1024) :
    k0_pay4 (F := Ideal) x sc sh (ix2 r d)
      = modulated (fun k => x (ix3 0 r k)) (fun k => sh (ix3 0 0 k)) (fun k => sc (ix3 0 0 k)) d := by
  unfold modulated mean
  pointwise [k0_pay4]

theorem proj_at (c : Dev nD) (t : Fin cfg0.N) (r : Fin 512) (j : Fin 2816) :
    ∑ d : Fin 1024, hK m c t (ix2 r d) * (show FVec Ideal S1024x2816 .bf16 from iblk m c 5 t) (ix2 d j) = prK m c t r j := by
  unfold prK pr proj
  refine Finset.sum_congr rfl fun d _ => ?_
  rw [b5, hK, pay4_at]
  congr 2
  · exact funext fun k => b0 m c t r k
  · exact funext fun k => b1 m c t k
  · exact funext fun k => b2 m c t k

theorem logistic_eq (x : EReal) : Ideal.logistic x = Ideal.div 1 (1 + Ideal.exp (-x)) := rfl

section
variable (h : FVec Ideal S512x1024 .bf16) (w : Vec Ideal S1024x2816 .bf16) (p : Fin 512 → Fin 2816 → EReal)

/-- The columns of the weights a projection reads. -/
abbrev colsOf (w : Vec Ideal S1024x2816 .bf16) (off wd : ℕ)
    (hw : ∀ a, (![0, off] : Fin 2 → ℕ) a + (⟨2, ![1024, wd]⟩ : Shape).size a ≤ S1024x2816.size a) :
    Vec Ideal ⟨2, ![1024, wd]⟩ .bf16 :=
  View.ld w (Rect.unit (s := S1024x2816) ![0, off] ![1024, wd] hw)

variable (hp : ∀ r j, ∑ d : Fin 1024, h (ix2 r d) * w (ix2 d j) = p r j)
include hp

theorem pay8_at (r : Fin 512) (j : Fin 512) :
    k0_pay8 h (colsOf w 0 512 inb_S1024x2816_S1024x512_0_0) (ix2 r j) = p r ⟨j, by omega⟩ := by
  rw [← hp]
  pointwise [k0_pay8, colsOf]

theorem pay14_at (r : Fin 512) (j : Fin 256) :
    k0_pay14 h (colsOf w 512 256 inb_S1024x2816_S1024x256_0_512) (ix2 r j) = p r ⟨512 + j, by omega⟩ := by
  rw [← hp]
  pointwise [k0_pay14, colsOf]

theorem pay1_at (r : Fin 512) (j : Fin 512) :
    k0_pay1 (k0_pay21 h (colsOf w 768 512 inb_S1024x2816_S1024x512_0_768)) (ix3 0 r j)
      = gate (p r ⟨768 + j, by omega⟩) (p r ⟨768 + j, by omega⟩) := by
  rw [← hp, gate, ← logistic_eq]
  pointwise [k0_pay1, k0_pay21, colsOf]

theorem pay2_at (r : Fin 512) (j : Fin 512) :
    k0_pay2 h (colsOf w 1280 1024 inb_S1024x2816_S1024x1024_0_1280) (ix3 0 r j)
      = gate (p r ⟨1280 + j, by omega⟩) (p r ⟨1792 + j, by omega⟩) := by
  rw [show (⟨1792 + j.val, by omega⟩ : Fin 2816) = ⟨1280 + (512 + j.val), by omega⟩ from Fin.ext (by dsimp only; omega), ← hp, ← hp, gate, ← logistic_eq]
  pointwise [k0_pay2, colsOf]

theorem pay3_at (r : Fin 512) (j : Fin 512) :
    k0_pay3 h (colsOf w 2304 512 inb_S1024x2816_S1024x512_0_2304) (ix3 0 r j)
      = gate (p r ⟨2304 + j, by omega⟩) (p r ⟨2304 + j, by omega⟩) := by
  rw [← hp, gate, ← logistic_eq]
  pointwise [k0_pay3, colsOf]
end

/-- The named scale of the queries. -/
theorem qscale : Named.named (F := Ideal) κ "qscale" (φ := .f32) 1043900987#32 = qs :=
  IdealRules.named_const.ideal_named_scalar κ "qscale" _ _ rfl

section
variable (co si : Vec Ideal S512x128 .f32) (p : Fin 512 → Fin 2816 → EReal) (n : ℕ)
  (hco : ∀ (r : Fin 512) (d : Fin 128), co (ix2 r d) = Ideal.cos (ang (n + r.val) d.val))
  (hsi : ∀ (r : Fin 512) (d : Fin 128), si (ix2 r d)
    = if d.val % 32 < 16 then -Ideal.sin (ang (n + r.val) d.val) else Ideal.sin (ang (n + r.val) d.val))
include hco hsi

theorem pay12_at (q : FVec Ideal S512x512 .f32) (hq : ∀ r (j : Fin 512), q (ix2 r j) = p r ⟨j, by omega⟩) (r : Fin 512) (d : Fin 128) :
    k0_pay12 (k0_pay5 co) (k0_pay6 si) (k0_pay7 (iota Kind.tc S1x128 32 [1] iota_S1x128_d1_w32) 32#32) q (ix3 0 r d) = rope (p r) (n + r.val) (256 + d.val) (by omega) * qs := by
  pointwise [k0_pay12, k0_pay5, k0_pay6]
  rw [hq, hq, hq, hco, hsi, mask_at, qscale]
  exact congrArg (· * qs) (rope_sel _ (by omega) (by dsimp only) (fun _ => by dsimp only; omega) (fun _ => by dsimp only; omega))

theorem pay13_at (q : FVec Ideal S512x512 .f32) (hq : ∀ r (j : Fin 512), q (ix2 r j) = p r ⟨j, by omega⟩) (r : Fin 512) (d : Fin 128) :
    k0_pay13 (k0_pay5 co) (k0_pay6 si) (k0_pay7 (iota Kind.tc S1x128 32 [1] iota_S1x128_d1_w32) 32#32) q (ix3 0 r d) = rope (p r) (n + r.val) (384 + d.val) (by omega) * qs := by
  pointwise [k0_pay13, k0_pay5, k0_pay6]
  rw [hq, hq, hq, hco, hsi, mask_at, qscale]
  exact congrArg (· * qs) (rope_sel _ (by omega) (by dsimp only) (fun _ => by dsimp only; omega) (fun _ => by dsimp only; omega))

theorem pay11_at (h w) (hq : ∀ r (j : Fin 512), k0_pay8 h w (ix2 r j) = p r ⟨j, by omega⟩) (r : Fin 512) (d : Fin 128) :
    k0_pay11 (k0_pay10 h (k0_pay5 co) (k0_pay6 si) (iota Kind.tc S1x128 32 [1] iota_S1x128_d1_w32) 32#32 w)
      (Named.named (F := Ideal) κ "qscale" 1043900987#32) (ix3 0 r d)
      = rope (p r) (n + r.val) (128 + d.val) (by omega) * qs := by
  pointwise [k0_pay11, k0_pay10, k0_pay5, k0_pay6]
  rw [hq, hq, hq, hco, hsi, mask_at, qscale]
  exact congrArg (· * qs) (rope_sel _ (by omega) (by dsimp only) (fun _ => by dsimp only; omega) (fun _ => by dsimp only; omega))

theorem pay9_at (h w) (hq : ∀ r (j : Fin 512), k0_pay8 h w (ix2 r j) = p r ⟨j, by omega⟩) (r : Fin 512) (d : Fin 128) :
    k0_pay9 h (k0_pay5 co) (k0_pay6 si) (iota Kind.tc S1x128 32 [1] iota_S1x128_d1_w32) 32#32 w (ix3 0 r d)
      = rope (p r) (n + r.val) d.val (by omega) * qs := by
  pointwise [k0_pay9, k0_pay5, k0_pay6]
  rw [hq, hq, hq, hco, hsi, mask_at, qscale]
  exact congrArg (· * qs) (rope_sel _ (by omega) (by dsimp only) (fun _ => by dsimp only; omega) (fun _ => by dsimp only; omega))

theorem pay15_at (q : FVec Ideal S512x256 .f32) (hq : ∀ r (j : Fin 256), q (ix2 r j) = p r ⟨512 + j, by omega⟩) (d : Fin 128) (r : Fin 512) :
    k0_pay15 (k0_pay5 co) (k0_pay6 si) (k0_pay7 (iota Kind.tc S1x128 32 [1] iota_S1x128_d1_w32) 32#32) q (ix3 0 d r) = rope (p r) (n + r.val) (512 + d.val) (by omega) := by
  pointwise [k0_pay15, k0_pay5, k0_pay6]
  rw [hq, hq, hq, hco, hsi, mask_at]
  exact rope_sel _ (by omega) (by dsimp only) (fun _ => by dsimp only; omega) (fun _ => by dsimp only; omega)
end

theorem lane (d : Fin 128) (a b : EReal) :
    Scalar.select (IntOp.cmpi CmpIPredicate.slt (BitVec.ofNat 32 d.val) 64#32) a b = if d.val < 64 then a else b := by
  have h : IntOp.cmpi CmpIPredicate.slt (BitVec.ofNat 32 d.val) 64#32 = if d.val < 64 then 1#1 else 0#1 := by
    revert d; decide
  rw [h]
  split <;> simp [Scalar.select]

theorem pay19_at (p : Fin 2816 → EReal) (q : FVec Ideal S512x256 .f32) (r : Fin 512) (hq : ∀ (j : Fin 256), q (ix2 r j) = p ⟨512 + j, by omega⟩) (d : Fin 128) :
    k0_pay19 q (ix3 0 r d) = vals p ⟨d.val, by omega⟩ := by
  pointwise [k0_pay19, k0_pay17, k0_pay18, k0_pay16]
  rw [lane, hq, hq, vals]
  split_ifs <;> exact congrArg p (Fin.ext (by dsimp only; omega))

theorem pay20_at (p : Fin 2816 → EReal) (q : FVec Ideal S512x256 .f32) (r : Fin 512) (hq : ∀ (j : Fin 256), q (ix2 r j) = p ⟨512 + j, by omega⟩) (d : Fin 128) :
    k0_pay20 q (ix3 0 r d) = vals p ⟨128 + d.val, by omega⟩ := by
  pointwise [k0_pay20, k0_pay17, k0_pay18, k0_pay16]
  rw [lane, hq, hq, vals]
  split_ifs <;> exact congrArg p (Fin.ext (by dsimp only; omega))

theorem eta3 {b c : ℕ} (x : (⟨3, ![1, b, c]⟩ : Shape).Idx) : x = ix3 0 (x 1) (x 2) := by
  funext k
  match k with
  | 0 => exact Subsingleton.elim (α := Fin 1) _ _
  | 1 => rfl
  | 2 => rfl

set_option maxHeartbeats 1000000 in
/-- The first result's block. -/
theorem o6 (c : Dev nD) (t : Fin cfg0.N) (r : Fin 512) (j : Fin 2048) :
    (outsAt0 m c t).1 (ix3 0 r j) = act (prK m c t r) (t.val % 4 * 512 + r.val) j := by
  unfold outsAt0
  dsimp only
  frame_out
  have q8 := pay8_at _ _ _ (proj_at m c t)
  canon_tiles x h using (by refine View.cover_of_tiledBy _ (fun a => (![1, 512, 128] : Fin 3 → ℕ) a) ?_ _; sl_kernel_rfl)
  all_goals
    obtain rfl : r = x 1 := Fin.ext h1
    refine (congrArg _ (eta3 x)).trans ?_
  · exact (pay3_at _ _ _ (proj_at m c t) (x 1) (x 2)).trans (act_c h2).symm
  · exact (pay2_at _ _ _ (proj_at m c t) (x 1) (x 2)).trans (act_u h2).symm
  · exact (pay1_at _ _ _ (proj_at m c t) (x 1) (x 2)).trans (act_a h2).symm
  · exact (pay13_at _ _ _ _ (b3 m c t) (b4 m c t) _ q8 (x 1) (x 2)).trans (act_q _ (by omega) h2).symm
  · exact (pay12_at _ _ _ _ (b3 m c t) (b4 m c t) _ q8 (x 1) (x 2)).trans (act_q _ (by omega) h2).symm
  · exact (pay11_at _ _ _ _ (b3 m c t) (b4 m c t) _ _ q8 (x 1) (x 2)).trans (act_q _ (by omega) h2).symm
  · exact (pay9_at _ _ _ _ (b3 m c t) (b4 m c t) _ _ q8 (x 1) (x 2)).trans (act_q _ (by omega) h2).symm

set_option maxHeartbeats 1000000 in
/-- The second result's block. -/
theorem o7 (c : Dev nD) (t : Fin cfg0.N) (d : Fin 128) (r : Fin 512) :
    (outsAt0 m c t).2.1 (ix3 0 d r) = rope (prK m c t r) (t.val % 4 * 512 + r.val) (512 + d.val) (by omega) := by
  unfold outsAt0
  dsimp only
  frame_out
  exact pay15_at _ _ _ _ (b3 m c t) (b4 m c t) _ (pay14_at _ _ _ (proj_at m c t)) _ _

set_option maxHeartbeats 1000000 in
/-- The third result's block. -/
theorem o8 (c : Dev nD) (t : Fin cfg0.N) (r : Fin 512) (j : Fin 256) :
    (outsAt0 m c t).2.2 (ix3 0 r j) = vals (prK m c t r) j := by
  unfold outsAt0
  dsimp only
  frame_out
  have q14 := pay14_at _ _ _ (proj_at m c t)
  canon_tiles x h
  all_goals
    obtain rfl : r = x 1 := Fin.ext h1
    refine (congrArg _ (eta3 x)).trans ?_
  · rw [show j = ⟨128 + (x 2).val, by omega⟩ from Fin.ext h2]
    exact pay20_at _ _ _ (q14 _) _
  · rw [show j = ⟨(x 2).val, by omega⟩ from Fin.ext h2]
    exact pay19_at _ _ _ (q14 _) _

section
variable (c : Dev nD)

theorem final6 : (dats m 0 c).arrAt 6 (cfgs 0).N
    = actArr (m ((c : Thread nD τ).loc main_arg0)) (m ((c : Thread nD τ).loc main_arg1)) (m ((c : Thread nD τ).loc main_arg2))
    (m ((c : Thread nD τ).loc main_arg3)) := by
  refine (dats m 0 c).arrAt_eq_of_covers 6 _ (by decide +kernel) fun t _ y => ?_
  blk_simp
  rw [after0_6]
  refine ((congrArg _ (eta3 y)).trans (o6 m c t (y 1) (y 2))).trans ?_
  unfold actArr
  have h0 : (win0_6.blk t).view.emb y 0 = (⟨t.val / 4, by have := tlt t; omega⟩ : Fin 32) := Fin.ext (by blk_simp [idx t]; first | done | omega)
  have h1 : (win0_6.blk t).view.emb y 1 = (⟨t.val % 4 * 512 + (y 1).val, by have : (y 1).val < 512 := (y 1).isLt; omega⟩ : Fin 2048) := Fin.ext (by blk_simp [idx t])
  have h2 : (win0_6.blk t).view.emb y 2 = (y 2 : Fin 2048) := Fin.ext (by blk_simp [idx t])
  rw [h0, h1, h2]

theorem final7 : (dats m 0 c).arrAt 7 (cfgs 0).N
    = keyArr (m ((c : Thread nD τ).loc main_arg0)) (m ((c : Thread nD τ).loc main_arg1)) (m ((c : Thread nD τ).loc main_arg2))
    (m ((c : Thread nD τ).loc main_arg3)) := by
  refine (dats m 0 c).arrAt_eq_of_covers 7 _ (by decide +kernel) fun t _ y => ?_
  blk_simp
  rw [after0_7]
  refine ((congrArg _ (eta3 y)).trans (o7 m c t (y 1) (y 2))).trans ?_
  unfold keyArr
  have h0 : (win0_7.blk t).view.emb y 0 = (⟨t.val / 4, by have := tlt t; omega⟩ : Fin 32) := Fin.ext (by blk_simp [idx t]; first | done | omega)
  have h2 : (win0_7.blk t).view.emb y 2 = (⟨t.val % 4 * 512 + (y 2).val, by have : (y 2).val < 512 := (y 2).isLt; omega⟩ : Fin 2048) := Fin.ext (by blk_simp [idx t])
  have h1 : (win0_7.blk t).view.emb y 1 = (y 1 : Fin 128) := Fin.ext (by blk_simp [idx t])
  simp only [h0, h1, h2]

theorem final8 : (dats m 0 c).arrAt 8 (cfgs 0).N
    = valArr (m ((c : Thread nD τ).loc main_arg0)) (m ((c : Thread nD τ).loc main_arg1)) (m ((c : Thread nD τ).loc main_arg2))
    (m ((c : Thread nD τ).loc main_arg3)) := by
  refine (dats m 0 c).arrAt_eq_of_covers 8 _ (by decide +kernel) fun t _ y => ?_
  blk_simp
  rw [after0_8]
  refine ((congrArg _ (eta3 y)).trans (o8 m c t (y 1) (y 2))).trans ?_
  unfold valArr
  have h0 : (win0_8.blk t).view.emb y 0 = (⟨t.val / 4, by have := tlt t; omega⟩ : Fin 32) := Fin.ext (by blk_simp [idx t]; first | done | omega)
  have h1 : (win0_8.blk t).view.emb y 1 = (⟨t.val % 4 * 512 + (y 1).val, by have : (y 1).val < 512 := (y 1).isLt; omega⟩ : Fin 2048) := Fin.ext (by blk_simp [idx t])
  have h2 : (win0_8.blk t).view.emb y 2 = (y 2 : Fin 256) := Fin.ext (by blk_simp [idx t])
  rw [h0, h1, h2]
end

end Cert.KernelVals
end
-- ==== Proof.RefTop.lean ====
module

public import proofs.«01_k».proof.Proof.Gen.ReferenceIdeal.Run
public import proofs.«01_k».proof.Proof.Proj

/-! The reference's three results, element by element. -/

@[expose] public section
set_option maxRecDepth 16384
noncomputable section
open Idealize.ShloMosaic Idealize.ShloMosaic.TcCoe Idealize.SL.Sem
namespace Cert.RefVals
open Cert.ReferenceIdeal Cert.ReferenceIdeal.Gen Cert.ReferenceIdeal.Value Cert.Proj
variable (V0 : Valuation τ sig (Elt Ideal))

/-- The projection of row `n` of batch `b`, of the reference's arguments. -/
def prV (b : Fin 32) (n : Fin 2048) : Fin 2816 → EReal :=
  pr (V0 (Proc.devRef .tc main_arg0)) (V0 (Proc.devRef .tc main_arg1)) (V0 (Proc.devRef .tc main_arg2))
    (V0 (Proc.devRef .tc main_arg3)) b n

theorem v54_at (b : Fin 32) (n : Fin 2048) (j : Fin 2816) : res_main_v54 V0 (ix3 b n j) = prV V0 b n j := by
  unfold prV pr proj modulated mean
  pointwise [res_main_v54, res_main_v32, res_main_v30]

theorem v61_at (n : Fin 2048) (k : Fin 16) :
    res_main_v61 V0 (ix4 0 n 0 k) = Ideal.cos (phase (n.val / 64) k.val) := by
  unfold phase
  pointwise [res_main_v61, res_main_v21, res_main_v26, res_main_v16]

theorem v63_at (n : Fin 2048) (k : Fin 16) :
    res_main_v63 V0 (ix4 0 n 0 k) = Ideal.sin (phase (n.val / 64) k.val) := by
  unfold phase
  pointwise [res_main_v63, res_main_v21, res_main_v26, res_main_v16]

theorem v79_at (n : Fin 2048) (k : Fin 16) :
    res_main_v79 V0 (ix4 0 n 0 k) = Ideal.cos (phase (n.val % 64) k.val) := by
  unfold phase
  pointwise [res_main_v79, res_main_v21, res_main_v26, res_main_v16]

theorem v81_at (n : Fin 2048) (k : Fin 16) :
    res_main_v81 V0 (ix4 0 n 0 k) = Ideal.sin (phase (n.val % 64) k.val) := by
  unfold phase
  pointwise [res_main_v81, res_main_v21, res_main_v26, res_main_v16]

theorem v100_at (n : Fin 2048) (k : Fin 16) :
    res_main_v100 V0 (ix4 0 n 0 k) = Ideal.cos (phase (n.val / 64) k.val) := by
  unfold phase
  pointwise [res_main_v100, res_main_v21, res_main_v26, res_main_v16]

theorem v102_at (n : Fin 2048) (k : Fin 16) :
    res_main_v102 V0 (ix4 0 n 0 k) = Ideal.sin (phase (n.val / 64) k.val) := by
  unfold phase
  pointwise [res_main_v102, res_main_v21, res_main_v26, res_main_v16]

theorem v118_at (n : Fin 2048) (k : Fin 16) :
    res_main_v118 V0 (ix4 0 n 0 k) = Ideal.cos (phase (n.val % 64) k.val) := by
  unfold phase
  pointwise [res_main_v118, res_main_v21, res_main_v26, res_main_v16]

theorem v120_at (n : Fin 2048) (k : Fin 16) :
    res_main_v120 V0 (ix4 0 n 0 k) = Ideal.sin (phase (n.val % 64) k.val) := by
  unfold phase
  pointwise [res_main_v120, res_main_v21, res_main_v26, res_main_v16]

theorem v58_at (b : Fin 32) (n : Fin 2048) (g : Fin 8) (k : Fin 16) :
    res_main_v58 V0 (ix4 b n g k) = prV V0 b n ⟨0 + g.val * 64 + k.val, by omega⟩ := by
  pointwise [res_main_v58, res_main_v57, res_main_v56]
  rw [v54_at]

theorem v59_at (b : Fin 32) (n : Fin 2048) (g : Fin 8) (k : Fin 16) :
    res_main_v59 V0 (ix4 b n g k) = prV V0 b n ⟨16 + g.val * 64 + k.val, by omega⟩ := by
  pointwise [res_main_v59, res_main_v57, res_main_v56]
  rw [v54_at]
  exact congrArg _ (Fin.ext (by dsimp only; omega))

theorem v76_at (b : Fin 32) (n : Fin 2048) (g : Fin 8) (k : Fin 16) :
    res_main_v76 V0 (ix4 b n g k) = prV V0 b n ⟨32 + g.val * 64 + k.val, by omega⟩ := by
  pointwise [res_main_v76, res_main_v75, res_main_v56]
  rw [v54_at]
  exact congrArg _ (Fin.ext (by dsimp only; omega))

theorem v77_at (b : Fin 32) (n : Fin 2048) (g : Fin 8) (k : Fin 16) :
    res_main_v77 V0 (ix4 b n g k) = prV V0 b n ⟨48 + g.val * 64 + k.val, by omega⟩ := by
  pointwise [res_main_v77, res_main_v75, res_main_v56]
  rw [v54_at]
  exact congrArg _ (Fin.ext (by dsimp only; omega))

theorem v97_at (b : Fin 32) (n : Fin 2048) (g : Fin 2) (k : Fin 16) :
    res_main_v97 V0 (ix4 b n g k) = prV V0 b n ⟨512 + g.val * 64 + k.val, by omega⟩ := by
  pointwise [res_main_v97, res_main_v96, res_main_v95]
  rw [v54_at]
  exact congrArg _ (Fin.ext (by dsimp only; omega))

theorem v98_at (b : Fin 32) (n : Fin 2048) (g : Fin 2) (k : Fin 16) :
    res_main_v98 V0 (ix4 b n g k) = prV V0 b n ⟨528 + g.val * 64 + k.val, by omega⟩ := by
  pointwise [res_main_v98, res_main_v96, res_main_v95]
  rw [v54_at]
  exact congrArg _ (Fin.ext (by dsimp only; omega))

theorem v115_at (b : Fin 32) (n : Fin 2048) (g : Fin 2) (k : Fin 16) :
    res_main_v115 V0 (ix4 b n g k) = prV V0 b n ⟨544 + g.val * 64 + k.val, by omega⟩ := by
  pointwise [res_main_v115, res_main_v114, res_main_v95]
  rw [v54_at]
  exact congrArg _ (Fin.ext (by dsimp only; omega))

theorem v116_at (b : Fin 32) (n : Fin 2048) (g : Fin 2) (k : Fin 16) :
    res_main_v116 V0 (ix4 b n g k) = prV V0 b n ⟨560 + g.val * 64 + k.val, by omega⟩ := by
  pointwise [res_main_v116, res_main_v114, res_main_v95]
  rw [v54_at]
  exact congrArg _ (Fin.ext (by dsimp only; omega))

end Cert.RefVals
end
-- ==== Proof.RefQueries.lean ====
module

public import proofs.«01_k».proof.Proof.Gen.ReferenceIdeal.Run
public import proofs.«01_k».proof.Proof.RefTop

/-! The reference's three results, element by element. -/

@[expose] public section
set_option maxRecDepth 16384
noncomputable section
open Idealize.ShloMosaic Idealize.ShloMosaic.TcCoe Idealize.SL.Sem
namespace Cert.RefVals
open Cert.ReferenceIdeal Cert.ReferenceIdeal.Gen Cert.ReferenceIdeal.Value Cert.Proj
variable (V0 : Valuation τ sig (Elt Ideal))

/-- The scaled and rotated queries. -/
def queries : FVec Ideal S32x2048x512 .f32 := ((mulf (shapeCast _ (concatenate S32x2048x8x64 3 [⟨S32x2048x8x32, (concatenate S32x2048x8x32 3 [⟨S32x2048x8x16, (subf (mulf (res_main_v58 V0) (broadcastInDim S32x2048x8x16 ![0, 1, 2, 3] bcast_S1x2048x1x16_S32x2048x8x16_0_1_2_3 (res_main_v61 V0))) (mulf (res_main_v59 V0) (broadcastInDim S32x2048x8x16 ![0, 1, 2, 3] bcast_S1x2048x1x16_S32x2048x8x16_0_1_2_3 (res_main_v63 V0))))⟩, ⟨S32x2048x8x16, (addf (mulf (res_main_v59 V0) (broadcastInDim S32x2048x8x16 ![0, 1, 2, 3] bcast_S1x2048x1x16_S32x2048x8x16_0_1_2_3 (res_main_v61 V0))) (mulf (res_main_v58 V0) (broadcastInDim S32x2048x8x16 ![0, 1, 2, 3] bcast_S1x2048x1x16_S32x2048x8x16_0_1_2_3 (res_main_v63 V0))))⟩] concatenates_S32x2048x8x16_S32x2048x8x16_S32x2048x8x32_d3)⟩, ⟨S32x2048x8x32, (concatenate S32x2048x8x32 3 [⟨S32x2048x8x16, (subf (mulf (res_main_v76 V0) (broadcastInDim S32x2048x8x16 ![0, 1, 2, 3] bcast_S1x2048x1x16_S32x2048x8x16_0_1_2_3 (res_main_v79 V0))) (mulf (res_main_v77 V0) (broadcastInDim S32x2048x8x16 ![0, 1, 2, 3] bcast_S1x2048x1x16_S32x2048x8x16_0_1_2_3 (res_main_v81 V0))))⟩, ⟨S32x2048x8x16, (addf (mulf (res_main_v77 V0) (broadcastInDim S32x2048x8x16 ![0, 1, 2, 3] bcast_S1x2048x1x16_S32x2048x8x16_0_1_2_3 (res_main_v79 V0))) (mulf (res_main_v76 V0) (broadcastInDim S32x2048x8x16 ![0, 1, 2, 3] bcast_S1x2048x1x16_S32x2048x8x16_0_1_2_3 (res_main_v81 V0))))⟩] concatenates_S32x2048x8x16_S32x2048x8x16_S32x2048x8x32_d3)⟩] concatenates_S32x2048x8x32_S32x2048x8x32_S32x2048x8x64_d3) shapeCasts_S32x2048x8x64_S32x2048x512) (broadcastInDim S32x2048x512 ![] bcast_S_S32x2048x512 (id (Host.divf (constant S_ .f32 0x3E000000#32) (Host.log (constant S_ .f32 0x40000000#32)))))) : (⟨S32x2048x512, .f32⟩ : BufTy).Contents (Elt Ideal))

set_option maxHeartbeats 4000000 in
theorem queries_at (b : Fin 32) (n : Fin 2048) (j : Fin 512) :
    queries V0 (ix3 b n j) = rope (prV V0 b n) n.val j.val (by omega) * qs := by
  unfold queries
  pointwise
  simp only [v58_at, v59_at, v76_at, v77_at, v61_at, v63_at, v79_at, v81_at]
  refine congrArg₂ (· * ·) ?_ qs_eq
  exact ladder (prV V0 b n) n.val 0 j.val j.val (by omega) (by omega) (by norm_num)

end Cert.RefVals
end
-- ==== Proof.RefVals.lean ====
module

public import proofs.«01_k».proof.Proof.Gen.ReferenceIdeal.Run
public import proofs.«01_k».proof.Proof.RefQueries

/-! The reference's three results, element by element. -/

@[expose] public section
set_option maxRecDepth 16384
noncomputable section
open Idealize.ShloMosaic Idealize.ShloMosaic.TcCoe Idealize.SL.Sem
namespace Cert.RefVals
open Cert.ReferenceIdeal Cert.ReferenceIdeal.Gen Cert.ReferenceIdeal.Value Cert.Proj
variable (V0 : Valuation τ sig (Elt Ideal))

set_option maxHeartbeats 4000000 in
theorem act_at (b : Fin 32) (n : Fin 2048) (j : Fin 2048) :
    (truncf .bf16 ((concatenate S32x2048x2048 2 [⟨S32x2048x512, (queries V0)⟩, ⟨S32x2048x512, ((mulf (extractStridedSlice S32x2048x512 ![0, 0, 1280] (res_main_v54 V0) slices_S32x2048x2816_S32x2048x512_0_0_1280) (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (extractStridedSlice S32x2048x512 ![0, 0, 1792] (res_main_v54 V0) slices_S32x2048x2816_S32x2048x512_0_0_1792)))))) : (⟨S32x2048x512, .f32⟩ : BufTy).Contents (Elt Ideal))⟩, ⟨S32x2048x512, ((mulf (res_main_v149 V0) (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (res_main_v149 V0)))))) : (⟨S32x2048x512, .f32⟩ : BufTy).Contents (Elt Ideal))⟩, ⟨S32x2048x512, ((mulf (res_main_v151 V0) (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (res_main_v151 V0)))))) : (⟨S32x2048x512, .f32⟩ : BufTy).Contents (Elt Ideal))⟩] concatenates_S32x2048x512_S32x2048x512_S32x2048x512_S32x2048x512_S32x2048x2048_d2 : (⟨S32x2048x2048, .f32⟩ : BufTy).Contents (Elt Ideal))) bitsLt_bf16_f32 : FVec Ideal S32x2048x2048 .bf16) (ix3 b n j) = act (prV V0 b n) n.val j := by
  pointwise [res_main_v149, res_main_v151]
  simp only [v54_at, queries_at]
  split_ifs <;> first
    | exact (act_q j.val (by assumption) rfl).symm
    | exact (act_u (d := ⟨j.val - 512, by omega⟩) (by dsimp only; omega)).symm
    | exact (act_a (d := ⟨j.val - 512 - 512, by omega⟩) (by dsimp only; omega)).symm
    | exact (act_c (d := ⟨j.val - 512 - 512 - 512, by omega⟩) (by dsimp only; omega)).symm

set_option maxHeartbeats 1000000 in
theorem vals_at (b : Fin 32) (n : Fin 2048) (j : Fin 256) :
    (truncf .bf16 ((concatenate S32x2048x256 2 [⟨S32x2048x64, ((extractStridedSlice S32x2048x64 ![0, 0, 0] (res_main_v133 V0) slices_S32x2048x128_S32x2048x64_0_0_0) : (⟨S32x2048x64, .f32⟩ : BufTy).Contents (Elt Ideal))⟩, ⟨S32x2048x64, ((extractStridedSlice S32x2048x64 ![0, 0, 0] (res_main_v133 V0) slices_S32x2048x128_S32x2048x64_0_0_0) : (⟨S32x2048x64, .f32⟩ : BufTy).Contents (Elt Ideal))⟩, ⟨S32x2048x64, ((extractStridedSlice S32x2048x64 ![0, 0, 64] (res_main_v133 V0) slices_S32x2048x128_S32x2048x64_0_0_64) : (⟨S32x2048x64, .f32⟩ : BufTy).Contents (Elt Ideal))⟩, ⟨S32x2048x64, ((extractStridedSlice S32x2048x64 ![0, 0, 64] (res_main_v133 V0) slices_S32x2048x128_S32x2048x64_0_0_64) : (⟨S32x2048x64, .f32⟩ : BufTy).Contents (Elt Ideal))⟩] concatenates_S32x2048x64_S32x2048x64_S32x2048x64_S32x2048x64_S32x2048x256_d2 : (⟨S32x2048x256, .f32⟩ : BufTy).Contents (Elt Ideal))) bitsLt_bf16_f32 : FVec Ideal S32x2048x256 .bf16) (ix3 b n j) = vals (prV V0 b n) j := by
  pointwise [res_main_v133]
  simp only [v54_at]
  have e : ∀ i j : Fin 2816, i.val = j.val → prV V0 b n i = prV V0 b n j := fun i j h => congrArg _ (Fin.ext h)
  unfold vals
  split_ifs <;> exact e _ _ (by dsimp only; omega)

end Cert.RefVals
end
-- ==== Proof.RefKeys.lean ====
module

public import proofs.«01_k».proof.Proof.Gen.ReferenceIdeal.Run
public import proofs.«01_k».proof.Proof.RefTop

/-! The reference's three results, element by element. -/

@[expose] public section
set_option maxRecDepth 16384
noncomputable section
open Idealize.ShloMosaic Idealize.ShloMosaic.TcCoe Idealize.SL.Sem
namespace Cert.RefVals
open Cert.ReferenceIdeal Cert.ReferenceIdeal.Gen Cert.ReferenceIdeal.Value Cert.Proj
variable (V0 : Valuation τ sig (Elt Ideal))

set_option maxHeartbeats 4000000 in
theorem keys_at (b : Fin 32) (j : Fin 128) (n : Fin 2048) :
    (truncf .bf16 (transpose S32x128x2048 [0, 2, 1] (shapeCast _ (concatenate S32x2048x2x64 3 [⟨S32x2048x2x32, (concatenate S32x2048x2x32 3 [⟨S32x2048x2x16, (subf (mulf (res_main_v97 V0) (broadcastInDim S32x2048x2x16 ![0, 1, 2, 3] bcast_S1x2048x1x16_S32x2048x2x16_0_1_2_3 (res_main_v100 V0))) (mulf (res_main_v98 V0) (broadcastInDim S32x2048x2x16 ![0, 1, 2, 3] bcast_S1x2048x1x16_S32x2048x2x16_0_1_2_3 (res_main_v102 V0))))⟩, ⟨S32x2048x2x16, (addf (mulf (res_main_v98 V0) (broadcastInDim S32x2048x2x16 ![0, 1, 2, 3] bcast_S1x2048x1x16_S32x2048x2x16_0_1_2_3 (res_main_v100 V0))) (mulf (res_main_v97 V0) (broadcastInDim S32x2048x2x16 ![0, 1, 2, 3] bcast_S1x2048x1x16_S32x2048x2x16_0_1_2_3 (res_main_v102 V0))))⟩] concatenates_S32x2048x2x16_S32x2048x2x16_S32x2048x2x32_d3)⟩, ⟨S32x2048x2x32, (concatenate S32x2048x2x32 3 [⟨S32x2048x2x16, (subf (mulf (res_main_v115 V0) (broadcastInDim S32x2048x2x16 ![0, 1, 2, 3] bcast_S1x2048x1x16_S32x2048x2x16_0_1_2_3 (res_main_v118 V0))) (mulf (res_main_v116 V0) (broadcastInDim S32x2048x2x16 ![0, 1, 2, 3] bcast_S1x2048x1x16_S32x2048x2x16_0_1_2_3 (res_main_v120 V0))))⟩, ⟨S32x2048x2x16, (addf (mulf (res_main_v116 V0) (broadcastInDim S32x2048x2x16 ![0, 1, 2, 3] bcast_S1x2048x1x16_S32x2048x2x16_0_1_2_3 (res_main_v118 V0))) (mulf (res_main_v115 V0) (broadcastInDim S32x2048x2x16 ![0, 1, 2, 3] bcast_S1x2048x1x16_S32x2048x2x16_0_1_2_3 (res_main_v120 V0))))⟩] concatenates_S32x2048x2x16_S32x2048x2x16_S32x2048x2x32_d3)⟩] concatenates_S32x2048x2x32_S32x2048x2x32_S32x2048x2x64_d3) shapeCasts_S32x2048x2x64_S32x2048x128) transposes_S32x2048x128_S32x128x2048_0_2_1) bitsLt_bf16_f32 : FVec Ideal S32x128x2048 .bf16) (ix3 b j n) = rope (prV V0 b n) n.val (512 + j.val) (by omega) := by
  pointwise
  simp only [v97_at, v98_at, v115_at, v116_at, v100_at, v102_at, v118_at, v120_at]
  exact ladder (prV V0 b n) n.val 512 j.val (512 + j.val) (by omega) (by omega) (by norm_num)

end Cert.RefVals
end
-- ==== Proof.TailMath.lean ====
module

public import Idealize.ShloMosaic.Lib.Pointwise

/-! The end of the mixer as plain arithmetic on extended reals, one row at a time. -/

@[expose] public section
noncomputable section
open Idealize.ShloMosaic Idealize.SL.Sem
namespace Cert.Tail

/-- The row with its mean taken off; `c` is the number of its entries. -/
def centred {k : ℕ} (c : EReal) (x : Fin k → EReal) (d : Fin k) : EReal := x d - Ideal.div (∑ j, x j) c

/-- The centred row divided by its standard deviation. -/
def normed {k : ℕ} (c : EReal) (x : Fin k → EReal) (d : Fin k) : EReal :=
  centred c x d * Ideal.rsqrt (Ideal.div (∑ j, centred c x j * centred c x j) c + Ideal.ofBits FTy.f32 897988541#32)

/-- A value times its logistic. -/
def silu (z : EReal) : EReal := z * Ideal.div 1 (1 + Ideal.exp (-z))

/-- The gated attention row beside the gated convolution row. -/
def mixed (ac : Fin 2048 → EReal) (at' cv g b : Fin 512 → EReal) (j : Fin 1024) : EReal :=
  if h : j.val < 512 then at' ⟨j, h⟩ * ac ⟨1024 + j, by omega⟩
  else silu (normed (Ideal.ofBits FTy.f32 1140850688#32) cv ⟨j - 512, by omega⟩ * g ⟨j - 512, by omega⟩ + b ⟨j - 512, by omega⟩)
    * ac ⟨1024 + j, by omega⟩

/-- The residual sum of a row. -/
def resid (mx x gt : Fin 1024 → EReal) (w : Fin 1024 → Fin 1024 → EReal) (d : Fin 1024) : EReal :=
  Ideal.ofBits FTy.f32 1066940400#32 * x d + gt d * ∑ j, mx j * w j d

/-- One row of the result. -/
def outRow (z g b : Fin 1024 → EReal) (d : Fin 1024) : EReal :=
  normed (Ideal.ofBits FTy.f32 1149239296#32) z d * g d + b d

section
variable (X : FVec Ideal ⟨3, ![32, 2048, 1024]⟩ .f32) (GT : FVec Ideal ⟨2, ![32, 1024]⟩ .f32)
    (A : FVec Ideal ⟨3, ![32, 2048, 2048]⟩ .bf16) (AT CV : FVec Ideal ⟨3, ![32, 2048, 512]⟩ .f32)
    (CG CB : FVec Ideal ⟨2, ![1, 512]⟩ .f32) (W : FVec Ideal ⟨3, ![1, 1024, 1024]⟩ .f32)
    (PG PB : FVec Ideal ⟨2, ![1, 1024]⟩ .f32)

/-- The mixed row of position `n` of batch `b`. -/
def mixedAt (b : Fin 32) (n : Fin 2048) : Fin 1024 → EReal :=
  mixed (fun k => A (ix3 b n k)) (fun k => AT (ix3 b n k)) (fun k => CV (ix3 b n k)) (fun k => CG (ix2 0 k)) (fun k => CB (ix2 0 k))

/-- The residual sum of position `n` of batch `b`. -/
def residAt (b : Fin 32) (n : Fin 2048) : Fin 1024 → EReal :=
  resid (mixedAt A AT CV CG CB b n) (fun k => X (ix3 b n k)) (fun k => GT (ix2 b k)) (fun k d => W (ix3 0 k d))

/-- The result. -/
def outArr : FVec Ideal ⟨3, ![32, 2048, 1024]⟩ .f32 :=
  fun i => outRow (residAt X GT A AT CV CG CB W (i 0) (i 1)) (fun k => PG (ix2 0 k)) (fun k => PB (ix2 0 k)) (i 2)
end

end Cert.Tail
end
-- ==== Proof.TailKernel.lean ====
module

public import proofs.«01_k».proof.Proof.Gen.Kernel2Ideal.Value
public import Idealize.ShloMosaic.Lib.Claim
public import Idealize.ShloMosaic.Lib.StableHlo.RunRead
public import Idealize.ShloMosaic.Lib.Pipeline.ValueKit
public import proofs.«01_k».proof.Proof.TailMath

/-! The result array of the mixer's end in the kernel, element by element. -/

@[expose] public section
set_option maxRecDepth 16384
noncomputable section
open Idealize.ShloMosaic Idealize.ShloMosaic.TcCoe Idealize.SL.Sem
namespace Cert.TailKernel
open Cert.Kernel2Ideal Cert.Kernel2Ideal.Gen Cert.Tail
variable (m : (ℓ : Loc nD τ sig) → Buf (Elt Ideal) ℓ)

theorem idx : ∀ t : Fin cfg0.N, win0_0.index t = ![t.val / 4, t.val % 4, 0] ∧ win0_1.index t = ![t.val / 4, t.val % 4, 0] ∧
   win0_2.index t = ![t.val / 4, t.val % 4, 0] ∧ win0_3.index t = ![0, 0] ∧ win0_4.index t = ![0, 0] ∧
   win0_5.index t = ![0, 0] ∧ win0_6.index t = ![t.val / 4, t.val % 4, 0] ∧ win0_7.index t = ![t.val / 4, 0, 0] ∧
   win0_8.index t = ![0, 0] ∧ win0_9.index t = ![0, 0] ∧ win0_10.index t = ![t.val / 4, t.val % 4, 0] ∧ t.val < 128 :=
  (by decide +kernel : ∀ t : Fin grid0.N, _)

theorem tlt (t : Fin cfg0.N) : t.val < 128 := (idx t).2.2.2.2.2.2.2.2.2.2.2

/-- The batch of point `t`. -/
abbrev bt (t : Fin cfg0.N) : Fin 32 := ⟨t.val / 4, by have := tlt t; omega⟩
/-- The position of row `r` of point `t`. -/
abbrev nt (t : Fin cfg0.N) (r : Fin 512) : Fin 2048 := ⟨t.val % 4 * 512 + r.val, by omega⟩

theorem b0 (c : Dev nD) (t : Fin cfg0.N) (r : Fin 512) (d : Fin 2048) :
   (show FVec Ideal S1x512x2048 .bf16 from iblk m c 0 t) (ix3 0 r d) = (show FVec Ideal S32x2048x2048 .bf16 from m ((c : Thread nD τ).loc main_arg2)) (ix3 (bt t) (nt t r) d) := by
  blk_point [iblk, V, idx t]
theorem b1 (c : Dev nD) (t : Fin cfg0.N) (r : Fin 512) (d : Fin 512) :
   (show FVec Ideal S1x512x512 .f32 from iblk m c 1 t) (ix3 0 r d) = (show FVec Ideal S32x2048x512 .f32 from m ((c : Thread nD τ).loc main_arg3)) (ix3 (bt t) (nt t r) d) := by
  blk_point [iblk, V, idx t]
theorem b2 (c : Dev nD) (t : Fin cfg0.N) (r : Fin 512) (d : Fin 512) :
   (show FVec Ideal S1x512x512 .f32 from iblk m c 2 t) (ix3 0 r d) = (show FVec Ideal S32x2048x512 .f32 from m ((c : Thread nD τ).loc main_arg4)) (ix3 (bt t) (nt t r) d) := by
  blk_point [iblk, V, idx t]
theorem b3 (c : Dev nD) (t : Fin cfg0.N) (d : Fin 512) :
   (show FVec Ideal S1x512 .f32 from iblk m c 3 t) (ix2 0 d) = (show FVec Ideal S1x512 .f32 from m ((c : Thread nD τ).loc main_arg5)) (ix2 0 d) := by
  blk_point [iblk, V, idx t]
theorem b4 (c : Dev nD) (t : Fin cfg0.N) (d : Fin 512) :
   (show FVec Ideal S1x512 .f32 from iblk m c 4 t) (ix2 0 d) = (show FVec Ideal S1x512 .f32 from m ((c : Thread nD τ).loc main_arg6)) (ix2 0 d) := by
  blk_point [iblk, V, idx t]
theorem b5 (c : Dev nD) (t : Fin cfg0.N) (k d : Fin 1024) :
   (show FVec Ideal S1024x1024 .bf16 from iblk m c 5 t) (ix2 k d) = (show FVec Ideal S1x1024x1024 .f32 from m ((c : Thread nD τ).loc main_arg7)) (ix3 0 k d) := by
  blk_point [iblk, V, idx t]
theorem b6 (c : Dev nD) (t : Fin cfg0.N) (r : Fin 512) (d : Fin 1024) :
   (show FVec Ideal S1x512x1024 .f32 from iblk m c 6 t) (ix3 0 r d) = (show FVec Ideal S32x2048x1024 .f32 from m ((c : Thread nD τ).loc main_arg0)) (ix3 (bt t) (nt t r) d) := by
  blk_point [iblk, V, idx t]
theorem b7 (c : Dev nD) (t : Fin cfg0.N) (d : Fin 1024) :
   (show FVec Ideal S1x1x1024 .f32 from iblk m c 7 t) (ix3 0 0 d) = (show FVec Ideal S32x1024 .f32 from m ((c : Thread nD τ).loc main_arg1)) (ix2 (bt t) d) := by
  blk_point [iblk, V, idx t]
theorem b8 (c : Dev nD) (t : Fin cfg0.N) (d : Fin 1024) :
   (show FVec Ideal S1x1024 .f32 from iblk m c 8 t) (ix2 0 d) = (show FVec Ideal S1x1024 .f32 from m ((c : Thread nD τ).loc main_arg8)) (ix2 0 d) := by
  blk_point [iblk, V, idx t]
theorem b9 (c : Dev nD) (t : Fin cfg0.N) (d : Fin 1024) :
   (show FVec Ideal S1x1024 .f32 from iblk m c 9 t) (ix2 0 d) = (show FVec Ideal S1x1024 .f32 from m ((c : Thread nD τ).loc main_arg9)) (ix2 0 d) := by
  blk_point [iblk, V, idx t]

theorem eta3 {b c : ℕ} (x : (⟨3, ![1, b, c]⟩ : Shape).Idx) : x = ix3 0 (x 1) (x 2) := by
  funext k
  match k with
  | 0 => exact Subsingleton.elim (α := Fin 1) _ _
  | 1 => rfl
  | 2 => rfl

theorem logistic_eq (x : EReal) : Ideal.logistic x = Ideal.div 1 (1 + Ideal.exp (-x)) := rfl

theorem pay10_at (x : FVec Ideal S1x512x512 .f32) (r j : Fin 512) : k0_pay10 (F := Ideal) x (ix2 r j) = x (ix3 0 r j) := by
  pointwise [k0_pay10]

theorem pay11_at (x : FVec Ideal S512x512 .f32) (r j : Fin 512) :
    k0_pay11 (F := Ideal) x (ix2 r j) = centred (Ideal.ofBits FTy.f32 1140850688#32) (fun k => x (ix2 r k)) j := by
  unfold centred
  pointwise [k0_pay11]

theorem pay12_at (x : FVec Ideal S512x512 .f32) (r : Fin 512) :
    k0_pay12 (F := Ideal) x (ix2 r 0) = ∑ j, centred (Ideal.ofBits FTy.f32 1140850688#32) (fun k => x (ix2 r k)) j
      * centred (Ideal.ofBits FTy.f32 1140850688#32) (fun k => x (ix2 r k)) j := by
  unfold centred
  pointwise [k0_pay12, k0_pay11]

theorem pay13_at (v : FVec Ideal S512x512 .f32) (q : FVec Ideal S512x1 .f32) (g b : FVec Ideal S1x512 .f32) (s : FVec Ideal S1x512x512 .bf16) (r j : Fin 512) :
    k0_pay13 (F := Ideal) v q g b s (ix2 r j)
      = silu (v (ix2 r j) * Ideal.rsqrt (Ideal.div (q (ix2 r 0)) (Ideal.ofBits FTy.f32 1140850688#32) + Ideal.ofBits FTy.f32 897988541#32)
        * g (ix2 0 j) + b (ix2 0 j)) * s (ix3 0 r j) := by
  unfold silu
  rw [← logistic_eq]
  pointwise [k0_pay13]

theorem pay14_at (mx : FVec Ideal S512x1024 .bf16) (w : FVec Ideal S1024x1024 .bf16) (x : FVec Ideal S1x512x1024 .f32) (g : FVec Ideal S1x1x1024 .f32)
    (r : Fin 512) (d : Fin 1024) :
    k0_pay14 (F := Ideal) mx w x g (ix2 r d)
      = resid (fun k => mx (ix2 r k)) (fun k => x (ix3 0 r k)) (fun k => g (ix3 0 0 k)) (fun k d => w (ix2 k d)) d := by
  unfold resid
  pointwise [k0_pay14]

theorem pay1_at (z : FVec Ideal S512x1024 .f32) (g b : FVec Ideal S1x1024 .f32) (r : Fin 512) (d : Fin 1024) :
    k0_pay1 (F := Ideal) z g b (ix3 0 r d) = outRow (fun k => z (ix2 r k)) (fun k => g (ix2 0 k)) (fun k => b (ix2 0 k)) d := by
  unfold outRow normed centred
  pointwise [k0_pay1]

/-- The whole row from the mixed one. -/
theorem row_at (mx : FVec Ideal S512x1024 .bf16) (w : FVec Ideal S1024x1024 .bf16) (x : FVec Ideal S1x512x1024 .f32) (gt : FVec Ideal S1x1x1024 .f32)
    (g b : FVec Ideal S1x1024 .f32) (r : Fin 512) (d : Fin 1024) :
    k0_pay1 (F := Ideal) (k0_pay14 mx w x gt) g b (ix3 0 r d)
      = outRow (resid (fun k => mx (ix2 r k)) (fun k => x (ix3 0 r k)) (fun k => gt (ix3 0 0 k)) (fun k d => w (ix2 k d)))
        (fun k => g (ix2 0 k)) (fun k => b (ix2 0 k)) d :=
  (pay1_at _ _ _ _ _).trans (congrArg (fun f => outRow f _ _ d) (funext fun k => pay14_at mx w x gt r k))

theorem pay2_at (v : Vec Ideal S1x512x512 .f32) (a : Vec Ideal S1x512x2048 .bf16) (p : Fin 128) (q : Fin 256) :
    k0_pay2 (View.ld v (Rect.unit (s := S1x512x512) ![0, 0, 0] ![1, 128, 256] inb_S1x512x512_S1x128x256_0_0_0))
      (View.ld a (Rect.unit (s := S1x512x2048) ![0, 0, 1024] ![1, 128, 256] inb_S1x512x2048_S1x128x256_0_0_1024)) (ix2 p q)
      = v (ix3 0 ⟨p.val, by omega⟩ ⟨q.val, by omega⟩) * a (ix3 0 ⟨p.val, by omega⟩ ⟨1024 + q.val, by omega⟩) := by
  pointwise [k0_pay2]

theorem pay3_at (v : Vec Ideal S1x512x512 .f32) (a : Vec Ideal S1x512x2048 .bf16) (p : Fin 128) (q : Fin 256) :
    k0_pay3 (View.ld v (Rect.unit (s := S1x512x512) ![0, 0, 256] ![1, 128, 256] inb_S1x512x512_S1x128x256_0_0_256))
      (View.ld a (Rect.unit (s := S1x512x2048) ![0, 0, 1280] ![1, 128, 256] inb_S1x512x2048_S1x128x256_0_0_1280)) (ix2 p q)
      = v (ix3 0 ⟨p.val, by omega⟩ ⟨256 + q.val, by omega⟩) * a (ix3 0 ⟨p.val, by omega⟩ ⟨1280 + q.val, by omega⟩) := by
  pointwise [k0_pay3]

theorem pay4_at (v : Vec Ideal S1x512x512 .f32) (a : Vec Ideal S1x512x2048 .bf16) (p : Fin 128) (q : Fin 256) :
    k0_pay4 (View.ld v (Rect.unit (s := S1x512x512) ![0, 128, 0] ![1, 128, 256] inb_S1x512x512_S1x128x256_0_128_0))
      (View.ld a (Rect.unit (s := S1x512x2048) ![0, 128, 1024] ![1, 128, 256] inb_S1x512x2048_S1x128x256_0_128_1024)) (ix2 p q)
      = v (ix3 0 ⟨128 + p.val, by omega⟩ ⟨q.val, by omega⟩) * a (ix3 0 ⟨128 + p.val, by omega⟩ ⟨1024 + q.val, by omega⟩) := by
  pointwise [k0_pay4]

theorem pay5_at (v : Vec Ideal S1x512x512 .f32) (a : Vec Ideal S1x512x2048 .bf16) (p : Fin 128) (q : Fin 256) :
    k0_pay5 (View.ld v (Rect.unit (s := S1x512x512) ![0, 128, 256] ![1, 128, 256] inb_S1x512x512_S1x128x256_0_128_256))
      (View.ld a (Rect.unit (s := S1x512x2048) ![0, 128, 1280] ![1, 128, 256] inb_S1x512x2048_S1x128x256_0_128_1280)) (ix2 p q)
      = v (ix3 0 ⟨128 + p.val, by omega⟩ ⟨256 + q.val, by omega⟩) * a (ix3 0 ⟨128 + p.val, by omega⟩ ⟨1280 + q.val, by omega⟩) := by
  pointwise [k0_pay5]

theorem pay6_at (v : Vec Ideal S1x512x512 .f32) (a : Vec Ideal S1x512x2048 .bf16) (p : Fin 128) (q : Fin 256) :
    k0_pay6 (View.ld v (Rect.unit (s := S1x512x512) ![0, 256, 0] ![1, 128, 256] inb_S1x512x512_S1x128x256_0_256_0))
      (View.ld a (Rect.unit (s := S1x512x2048) ![0, 256, 1024] ![1, 128, 256] inb_S1x512x2048_S1x128x256_0_256_1024)) (ix2 p q)
      = v (ix3 0 ⟨256 + p.val, by omega⟩ ⟨q.val, by omega⟩) * a (ix3 0 ⟨256 + p.val, by omega⟩ ⟨1024 + q.val, by omega⟩) := by
  pointwise [k0_pay6]

theorem pay7_at (v : Vec Ideal S1x512x512 .f32) (a : Vec Ideal S1x512x2048 .bf16) (p : Fin 128) (q : Fin 256) :
    k0_pay7 (View.ld v (Rect.unit (s := S1x512x512) ![0, 256, 256] ![1, 128, 256] inb_S1x512x512_S1x128x256_0_256_256))
      (View.ld a (Rect.unit (s := S1x512x2048) ![0, 256, 1280] ![1, 128, 256] inb_S1x512x2048_S1x128x256_0_256_1280)) (ix2 p q)
      = v (ix3 0 ⟨256 + p.val, by omega⟩ ⟨256 + q.val, by omega⟩) * a (ix3 0 ⟨256 + p.val, by omega⟩ ⟨1280 + q.val, by omega⟩) := by
  pointwise [k0_pay7]

theorem pay8_at (v : Vec Ideal S1x512x512 .f32) (a : Vec Ideal S1x512x2048 .bf16) (p : Fin 128) (q : Fin 256) :
    k0_pay8 (View.ld v (Rect.unit (s := S1x512x512) ![0, 384, 0] ![1, 128, 256] inb_S1x512x512_S1x128x256_0_384_0))
      (View.ld a (Rect.unit (s := S1x512x2048) ![0, 384, 1024] ![1, 128, 256] inb_S1x512x2048_S1x128x256_0_384_1024)) (ix2 p q)
      = v (ix3 0 ⟨384 + p.val, by omega⟩ ⟨q.val, by omega⟩) * a (ix3 0 ⟨384 + p.val, by omega⟩ ⟨1024 + q.val, by omega⟩) := by
  pointwise [k0_pay8]

theorem pay9_at (v : Vec Ideal S1x512x512 .f32) (a : Vec Ideal S1x512x2048 .bf16) (p : Fin 128) (q : Fin 256) :
    k0_pay9 (View.ld v (Rect.unit (s := S1x512x512) ![0, 384, 256] ![1, 128, 256] inb_S1x512x512_S1x128x256_0_384_256))
      (View.ld a (Rect.unit (s := S1x512x2048) ![0, 384, 1280] ![1, 128, 256] inb_S1x512x2048_S1x128x256_0_384_1280)) (ix2 p q)
      = v (ix3 0 ⟨384 + p.val, by omega⟩ ⟨256 + q.val, by omega⟩) * a (ix3 0 ⟨384 + p.val, by omega⟩ ⟨1280 + q.val, by omega⟩) := by
  pointwise [k0_pay9]

/-- The gated convolution, from the blocks. -/
theorem conv_at (a : Vec Ideal S1x512x2048 .bf16) (cv : Vec Ideal S1x512x512 .f32) (g b : Vec Ideal S1x512 .f32) (r q : Fin 512) :
    k0_pay13 (k0_pay11 (k0_pay10 cv)) (k0_pay12 (k0_pay10 cv)) g b (View.ld a (Rect.unit (s := S1x512x2048) ![0, 0, 1536] ![1, 512, 512] inb_S1x512x2048_S1x512x512_0_0_1536)) (ix2 r q)
      = silu (normed (Ideal.ofBits FTy.f32 1140850688#32) (fun k => cv (ix3 0 r k)) q * g (ix2 0 q) + b (ix2 0 q)) * a (ix3 0 r ⟨1536 + q.val, by omega⟩) := by
  refine (pay13_at _ _ _ _ _ _ _).trans ?_
  have e : (fun k => k0_pay10 (F := Ideal) cv (ix2 r k)) = fun k => cv (ix3 0 r k) := funext fun k => pay10_at cv r k
  rw [pay11_at, pay12_at, e]
  unfold normed
  pointwise

section
variable {ac : Fin 2048 → EReal} {at' cv g b : Fin 512 → EReal}

theorem mixed_attn {j : Fin 1024} (k : Fin 512) (l : Fin 2048) (hk : j.val = k.val) (hl : l.val = 1024 + k.val) :
    mixed ac at' cv g b j = at' k * ac l := by
  obtain ⟨j, hj⟩ := j
  obtain ⟨l, hl'⟩ := l
  dsimp only at hk hl
  subst hk hl
  exact dif_pos k.isLt

theorem mixed_conv {j : Fin 1024} (k : Fin 512) (l : Fin 2048) (hk : j.val = 512 + k.val) (hl : l.val = 1536 + k.val) :
    mixed ac at' cv g b j = silu (normed (Ideal.ofBits FTy.f32 1140850688#32) cv k * g k + b k) * ac l := by
  obtain ⟨j, hj⟩ := j
  dsimp only at hk
  subst hk
  have e : (⟨512 + k.val - 512, by omega⟩ : Fin 512) = k := Fin.ext (by dsimp only; omega)
  have el : (⟨1024 + (512 + k.val), by omega⟩ : Fin 2048) = l := Fin.ext (by dsimp only; omega)
  refine (dif_neg (by dsimp only; omega)).trans ?_
  dsimp only
  rw [e, el]
end

theorem eta2 {b c : ℕ} (x : (⟨2, ![b, c]⟩ : Shape).Idx) : x = ix2 (x 0) (x 1) := by
  funext k
  match k with
  | 0 => rfl
  | 1 => rfl

/-- A load of the whole mixed block reads what was stored. -/
theorem load_at {L : List (View.Piece (Elt Ideal) S512x1024 .bf16)} {z : EReal} (r : Fin 512) (j : Fin 1024)
    (h : (show EReal from View.canon L (ix2 r j)) = z) :
    (View.whole cc0_scratch4).readCov L (Rect.unit (s := S512x1024) ![0, 0] ![512, 1024] inb_S512x1024_S512x1024_0_0).toLoadRect (ix2 r j) = z := by
  rw [View.readCov_eq_canon']
  refine Eq.trans (congrArg (View.canon L) (funext fun a => Fin.ext ?_)) h
  match a with
  | 0 => simp
  | 1 => simp

section
variable (a : Vec Ideal S1x512x2048 .bf16) (v cv : Vec Ideal S1x512x512 .f32) (g b : Vec Ideal S1x512 .f32) (r : Fin 512) (j : Fin 1024)

/-- The mixed row of row `r`, from the blocks. -/
def mixedOf : EReal :=
  mixed (fun k => a (ix3 0 r k)) (fun k => v (ix3 0 r k)) (fun k => cv (ix3 0 r k)) (fun k => g (ix2 0 k)) (fun k => b (ix2 0 k)) j

theorem piece0 (x : S512x512.Idx) (h0 : r.val = (x 0).val) (h1 : j.val = 512 + (x 1).val) :
    k0_pay13 (k0_pay11 (k0_pay10 cv)) (k0_pay12 (k0_pay10 cv)) g b (View.ld a (Rect.unit (s := S1x512x2048) ![0, 0, 1536] ![1, 512, 512] inb_S1x512x2048_S1x512x512_0_0_1536)) x
      = mixedOf a v cv g b r j := by
  have l1 : (x 1).val < 512 := (x 1).isLt
  rw [mixedOf, show r = x 0 from Fin.ext h0]
  refine Eq.trans ?_ (mixed_conv (x 1) ⟨1536 + (x 1).val, by omega⟩ h1 rfl).symm
  exact (congrArg _ (eta2 x)).trans (conv_at _ _ _ _ (x 0) (x 1))

theorem piece1 (x : S128x256.Idx) (h0 : r.val = 384 + (x 0).val) (h1 : j.val = 256 + (x 1).val) :
    k0_pay9 (View.ld v (Rect.unit (s := S1x512x512) ![0, 384, 256] ![1, 128, 256] inb_S1x512x512_S1x128x256_0_384_256))
      (View.ld a (Rect.unit (s := S1x512x2048) ![0, 384, 1280] ![1, 128, 256] inb_S1x512x2048_S1x128x256_0_384_1280)) x
      = mixedOf a v cv g b r j := by
  have l0 : (x 0).val < 128 := (x 0).isLt
  have l1 : (x 1).val < 256 := (x 1).isLt
  rw [mixedOf, show r = ⟨384 + (x 0).val, by omega⟩ from Fin.ext h0]
  refine Eq.trans ?_ (mixed_attn ⟨256 + (x 1).val, by omega⟩ ⟨1280 + (x 1).val, by omega⟩ h1 (by dsimp only; first | done | omega)).symm
  exact (congrArg _ (eta2 x)).trans (pay9_at _ _ (x 0) (x 1))

theorem piece2 (x : S128x256.Idx) (h0 : r.val = 384 + (x 0).val) (h1 : j.val = (x 1).val) :
    k0_pay8 (View.ld v (Rect.unit (s := S1x512x512) ![0, 384, 0] ![1, 128, 256] inb_S1x512x512_S1x128x256_0_384_0))
      (View.ld a (Rect.unit (s := S1x512x2048) ![0, 384, 1024] ![1, 128, 256] inb_S1x512x2048_S1x128x256_0_384_1024)) x
      = mixedOf a v cv g b r j := by
  have l0 : (x 0).val < 128 := (x 0).isLt
  have l1 : (x 1).val < 256 := (x 1).isLt
  rw [mixedOf, show r = ⟨384 + (x 0).val, by omega⟩ from Fin.ext h0]
  refine Eq.trans ?_ (mixed_attn ⟨(x 1).val, by omega⟩ ⟨1024 + (x 1).val, by omega⟩ h1 (by dsimp only; first | done | omega)).symm
  exact (congrArg _ (eta2 x)).trans (pay8_at _ _ (x 0) (x 1))

theorem piece3 (x : S128x256.Idx) (h0 : r.val = 256 + (x 0).val) (h1 : j.val = 256 + (x 1).val) :
    k0_pay7 (View.ld v (Rect.unit (s := S1x512x512) ![0, 256, 256] ![1, 128, 256] inb_S1x512x512_S1x128x256_0_256_256))
      (View.ld a (Rect.unit (s := S1x512x2048) ![0, 256, 1280] ![1, 128, 256] inb_S1x512x2048_S1x128x256_0_256_1280)) x
      = mixedOf a v cv g b r j := by
  have l0 : (x 0).val < 128 := (x 0).isLt
  have l1 : (x 1).val < 256 := (x 1).isLt
  rw [mixedOf, show r = ⟨256 + (x 0).val, by omega⟩ from Fin.ext h0]
  refine Eq.trans ?_ (mixed_attn ⟨256 + (x 1).val, by omega⟩ ⟨1280 + (x 1).val, by omega⟩ h1 (by dsimp only; first | done | omega)).symm
  exact (congrArg _ (eta2 x)).trans (pay7_at _ _ (x 0) (x 1))

theorem piece4 (x : S128x256.Idx) (h0 : r.val = 256 + (x 0).val) (h1 : j.val = (x 1).val) :
    k0_pay6 (View.ld v (Rect.unit (s := S1x512x512) ![0, 256, 0] ![1, 128, 256] inb_S1x512x512_S1x128x256_0_256_0))
      (View.ld a (Rect.unit (s := S1x512x2048) ![0, 256, 1024] ![1, 128, 256] inb_S1x512x2048_S1x128x256_0_256_1024)) x
      = mixedOf a v cv g b r j := by
  have l0 : (x 0).val < 128 := (x 0).isLt
  have l1 : (x 1).val < 256 := (x 1).isLt
  rw [mixedOf, show r = ⟨256 + (x 0).val, by omega⟩ from Fin.ext h0]
  refine Eq.trans ?_ (mixed_attn ⟨(x 1).val, by omega⟩ ⟨1024 + (x 1).val, by omega⟩ h1 (by dsimp only; first | done | omega)).symm
  exact (congrArg _ (eta2 x)).trans (pay6_at _ _ (x 0) (x 1))

theorem piece5 (x : S128x256.Idx) (h0 : r.val = 128 + (x 0).val) (h1 : j.val = 256 + (x 1).val) :
    k0_pay5 (View.ld v (Rect.unit (s := S1x512x512) ![0, 128, 256] ![1, 128, 256] inb_S1x512x512_S1x128x256_0_128_256))
      (View.ld a (Rect.unit (s := S1x512x2048) ![0, 128, 1280] ![1, 128, 256] inb_S1x512x2048_S1x128x256_0_128_1280)) x
      = mixedOf a v cv g b r j := by
  have l0 : (x 0).val < 128 := (x 0).isLt
  have l1 : (x 1).val < 256 := (x 1).isLt
  rw [mixedOf, show r = ⟨128 + (x 0).val, by omega⟩ from Fin.ext h0]
  refine Eq.trans ?_ (mixed_attn ⟨256 + (x 1).val, by omega⟩ ⟨1280 + (x 1).val, by omega⟩ h1 (by dsimp only; first | done | omega)).symm
  exact (congrArg _ (eta2 x)).trans (pay5_at _ _ (x 0) (x 1))

theorem piece6 (x : S128x256.Idx) (h0 : r.val = 128 + (x 0).val) (h1 : j.val = (x 1).val) :
    k0_pay4 (View.ld v (Rect.unit (s := S1x512x512) ![0, 128, 0] ![1, 128, 256] inb_S1x512x512_S1x128x256_0_128_0))
      (View.ld a (Rect.unit (s := S1x512x2048) ![0, 128, 1024] ![1, 128, 256] inb_S1x512x2048_S1x128x256_0_128_1024)) x
      = mixedOf a v cv g b r j := by
  have l0 : (x 0).val < 128 := (x 0).isLt
  have l1 : (x 1).val < 256 := (x 1).isLt
  rw [mixedOf, show r = ⟨128 + (x 0).val, by omega⟩ from Fin.ext h0]
  refine Eq.trans ?_ (mixed_attn ⟨(x 1).val, by omega⟩ ⟨1024 + (x 1).val, by omega⟩ h1 (by dsimp only; first | done | omega)).symm
  exact (congrArg _ (eta2 x)).trans (pay4_at _ _ (x 0) (x 1))

theorem piece7 (x : S128x256.Idx) (h0 : r.val = (x 0).val) (h1 : j.val = 256 + (x 1).val) :
    k0_pay3 (View.ld v (Rect.unit (s := S1x512x512) ![0, 0, 256] ![1, 128, 256] inb_S1x512x512_S1x128x256_0_0_256))
      (View.ld a (Rect.unit (s := S1x512x2048) ![0, 0, 1280] ![1, 128, 256] inb_S1x512x2048_S1x128x256_0_0_1280)) x
      = mixedOf a v cv g b r j := by
  have l0 : (x 0).val < 128 := (x 0).isLt
  have l1 : (x 1).val < 256 := (x 1).isLt
  rw [mixedOf, show r = ⟨(x 0).val, by omega⟩ from Fin.ext h0]
  refine Eq.trans ?_ (mixed_attn ⟨256 + (x 1).val, by omega⟩ ⟨1280 + (x 1).val, by omega⟩ h1 (by dsimp only; first | done | omega)).symm
  exact (congrArg _ (eta2 x)).trans (pay3_at _ _ (x 0) (x 1))

theorem piece8 (x : S128x256.Idx) (h0 : r.val = (x 0).val) (h1 : j.val = (x 1).val) :
    k0_pay2 (View.ld v (Rect.unit (s := S1x512x512) ![0, 0, 0] ![1, 128, 256] inb_S1x512x512_S1x128x256_0_0_0))
      (View.ld a (Rect.unit (s := S1x512x2048) ![0, 0, 1024] ![1, 128, 256] inb_S1x512x2048_S1x128x256_0_0_1024)) x
      = mixedOf a v cv g b r j := by
  have l0 : (x 0).val < 128 := (x 0).isLt
  have l1 : (x 1).val < 256 := (x 1).isLt
  rw [mixedOf, show r = ⟨(x 0).val, by omega⟩ from Fin.ext h0]
  refine Eq.trans ?_ (mixed_attn ⟨(x 1).val, by omega⟩ ⟨1024 + (x 1).val, by omega⟩ h1 (by dsimp only; first | done | omega)).symm
  exact (congrArg _ (eta2 x)).trans (pay2_at _ _ (x 0) (x 1))

end

set_option maxHeartbeats 1000000 in
/-- The result's block. -/
theorem o10 (c : Dev nD) (t : Fin cfg0.N) (r : Fin 512) (d : Fin 1024) :
    outsAt0 m c t (ix3 0 r d) = outRow (resid (mixed (fun k => iblk m c 0 t (ix3 0 r k)) (fun k => iblk m c 1 t (ix3 0 r k))
        (fun k => iblk m c 2 t (ix3 0 r k)) (fun k => iblk m c 3 t (ix2 0 k)) (fun k => iblk m c 4 t (ix2 0 k)))
      (fun k => iblk m c 6 t (ix3 0 r k)) (fun k => iblk m c 7 t (ix3 0 0 k)) (fun k d => iblk m c 5 t (ix2 k d)))
      (fun k => iblk m c 8 t (ix2 0 k)) (fun k => iblk m c 9 t (ix2 0 k)) d := by
  unfold outsAt0
  frame_out
  refine (row_at _ _ _ _ _ _ _ _).trans ?_
  refine congrArg (fun f => outRow (resid f _ _ _) _ _ d) (funext fun j => ?_)
  refine load_at r j ?_
  refine Eq.trans ?_ (rfl : mixedOf (iblk m c 0 t) (iblk m c 1 t) (iblk m c 2 t) (iblk m c 3 t) (iblk m c 4 t) r j = _)
  canon_tiles x h using (by refine View.cover_of_tiledBy _ (fun a => (![128, 256] : Fin 2 → ℕ) a) ?_ _; sl_kernel_rfl)
  · exact piece0 _ _ _ _ _ r j x h0 h1
  · exact piece1 _ _ _ _ _ r j x h0 h1
  · exact piece2 _ _ _ _ _ r j x h0 h1
  · exact piece3 _ _ _ _ _ r j x h0 h1
  · exact piece4 _ _ _ _ _ r j x h0 h1
  · exact piece5 _ _ _ _ _ r j x h0 h1
  · exact piece6 _ _ _ _ _ r j x h0 h1
  · exact piece7 _ _ _ _ _ r j x h0 h1
  · exact piece8 _ _ _ _ _ r j x h0 h1

theorem final10 (c : Dev nD) : (dats m 0 c).arrAt 10 (cfgs 0).N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  refine ((congrArg _ (eta3 y)).trans (o10 m c t (y 1) (y 2))).trans ?_
  unfold outArr residAt mixedAt
  have h0 : (win0_10.blk t).view.emb y 0 = bt t := Fin.ext (by blk_simp [idx t]; first | done | omega)
  have h1 : (win0_10.blk t).view.emb y 1 = nt t (y 1) := Fin.ext (by blk_simp [idx t])
  have h2 : (win0_10.blk t).view.emb y 2 = (y 2 : Fin 1024) := Fin.ext (by blk_simp [idx t])
  rw [h0, h1, h2]
  have e0 := funext fun k => b0 m c t (y 1) k
  have e1 := funext fun k => b1 m c t (y 1) k
  have e2 := funext fun k => b2 m c t (y 1) k
  have e3 := funext fun k => b3 m c t k
  have e4 := funext fun k => b4 m c t k
  have e5 := funext fun k => funext fun d => b5 m c t k d
  have e6 := funext fun k => b6 m c t (y 1) k
  have e7 := funext fun k => b7 m c t k
  have e8 := funext fun k => b8 m c t k
  have e9 := funext fun k => b9 m c t k
  have em := congr (congr (congr (congr (congrArg mixed e0) e1) e2) e3) e4
  exact congrFun (congr (congr (congrArg outRow (congr (congr (congr (congrArg resid em) e6) e7) e5)) e8) e9) (y 2)

end Cert.TailKernel
end
-- ==== Proof.TailRef.lean ====
module

public import proofs.«01_k».proof.Proof.Gen.Reference2Ideal.Run
public import proofs.«01_k».proof.Proof.TailMath

/-! The result of the mixer's end in the reference, element by element. -/

@[expose] public section
set_option maxRecDepth 16384
noncomputable section
open Idealize.ShloMosaic Idealize.ShloMosaic.TcCoe Idealize.SL.Sem
namespace Cert.TailRef
open Cert.Reference2Ideal Cert.Reference2Ideal.Gen Cert.Reference2Ideal.Value Cert.Tail

/-- The normalised convolution, scaled and shifted. -/
def convA (CV : FVec Ideal S32x2048x512 .f32) (CG CB : FVec Ideal S1x512 .f32) : FVec Ideal S32x2048x512 .f32 :=
  (addf (mulf (mulf (subf CV (broadcastInDim S32x2048x512 ![0, 1, 2] bcast_S32x2048x1_S32x2048x512_0_1_2 (Host.divf (broadcastInDim S32x2048x1 ![0, 1] bcast_S32x2048_S32x2048x1_0_1 (Host.reduceAdd CV (constant S_ .f32 0x00000000#32) reducesTo_S32x2048x512_S32x2048_d2 h_S_)) (broadcastInDim S32x2048x1 ![] bcast_S_S32x2048x1 (constant S_ .f32 0x44000000#32))))) (broadcastInDim S32x2048x512 ![0, 1, 2] bcast_S32x2048x1_S32x2048x512_0_1_2 (Host.rsqrt (addf (Host.divf (broadcastInDim S32x2048x1 ![0, 1] bcast_S32x2048_S32x2048x1_0_1 (Host.reduceAdd (mulf (subf CV (broadcastInDim S32x2048x512 ![0, 1, 2] bcast_S32x2048x1_S32x2048x512_0_1_2 (Host.divf (broadcastInDim S32x2048x1 ![0, 1] bcast_S32x2048_S32x2048x1_0_1 (Host.reduceAdd CV (constant S_ .f32 0x00000000#32) reducesTo_S32x2048x512_S32x2048_d2 h_S_)) (broadcastInDim S32x2048x1 ![] bcast_S_S32x2048x1 (constant S_ .f32 0x44000000#32))))) (subf CV (broadcastInDim S32x2048x512 ![0, 1, 2] bcast_S32x2048x1_S32x2048x512_0_1_2 (Host.divf (broadcastInDim S32x2048x1 ![0, 1] bcast_S32x2048_S32x2048x1_0_1 (Host.reduceAdd CV (constant S_ .f32 0x00000000#32) reducesTo_S32x2048x512_S32x2048_d2 h_S_)) (broadcastInDim S32x2048x1 ![] bcast_S_S32x2048x1 (constant S_ .f32 0x44000000#32)))))) (constant S_ .f32 0x00000000#32) reducesTo_S32x2048x512_S32x2048_d2 h_S_)) (broadcastInDim S32x2048x1 ![] bcast_S_S32x2048x1 (constant S_ .f32 0x44000000#32))) (broadcastInDim S32x2048x1 ![] bcast_S_S32x2048x1 (constant S_ .f32 0x358637BD#32)))))) (broadcastInDim S32x2048x512 ![0, 1, 2] bcast_S1x1x512_S32x2048x512_0_1_2 (broadcastInDim S1x1x512 ![2] bcast_S512_S1x1x512_2 (shapeCast _ CG shapeCasts_S1x512_S512)))) (broadcastInDim S32x2048x512 ![0, 1, 2] bcast_S1x1x512_S32x2048x512_0_1_2 (broadcastInDim S1x1x512 ![2] bcast_S512_S1x1x512_2 (shapeCast _ CB shapeCasts_S1x512_S512))))

/-- The two gated branches side by side. -/
def mixA (A : FVec Ideal S32x2048x2048 .bf16) (AT v : FVec Ideal S32x2048x512 .f32) : FVec Ideal S32x2048x1024 .f32 :=
  (concatenate S32x2048x1024 2 [⟨S32x2048x512, (mulf AT (extf .f32 (extractStridedSlice S32x2048x512 ![0, 0, 1024] A slices_S32x2048x2048_S32x2048x512_0_0_1024) bitsLt_bf16_f32))⟩, ⟨S32x2048x512, (mulf (mulf v (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf v))))) (extf .f32 (extractStridedSlice S32x2048x512 ![0, 0, 1536] A slices_S32x2048x2048_S32x2048x512_0_0_1536) bitsLt_bf16_f32))⟩] concatenates_S32x2048x512_S32x2048x512_S32x2048x1024_d2)

/-- The residual sum. -/
def resA (X mx : FVec Ideal S32x2048x1024 .f32) (GT : FVec Ideal S32x1024 .f32) (W : FVec Ideal S1x1024x1024 .f32) : FVec Ideal S32x2048x1024 .f32 :=
  (addf (mulf (broadcastInDim S32x2048x1024 ![] bcast_S_S32x2048x1024 (constant S_ .f32 0x3F9837F0#32)) X) (mulf (broadcastInDim S32x2048x1024 ![0, 1, 2] bcast_S32x1x1024_S32x2048x1024_0_1_2 (broadcastInDim S32x1x1024 ![0, 2] bcast_S32x1024_S32x1x1024_0_2 GT)) (Host.dotGeneral dot_S32x2048x1024_S1024x1024_S32x2048x1024_2_0_01_1_n_n none mx (shapeCast _ W shapeCasts_S1x1024x1024_S1024x1024))))

/-- The normalised sum, scaled and shifted. -/
def outA (z : FVec Ideal S32x2048x1024 .f32) (PG PB : FVec Ideal S1x1024 .f32) : FVec Ideal S32x2048x1024 .f32 :=
  addf (mulf (mulf (subf z (broadcastInDim S32x2048x1024 ![0, 1, 2] bcast_S32x2048x1_S32x2048x1024_0_1_2 (Host.divf (broadcastInDim S32x2048x1 ![0, 1] bcast_S32x2048_S32x2048x1_0_1 (Host.reduceAdd z (constant S_ .f32 0x00000000#32) reducesTo_S32x2048x1024_S32x2048_d2 h_S_)) (broadcastInDim S32x2048x1 ![] bcast_S_S32x2048x1 (constant S_ .f32 0x44800000#32))))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (subf z (broadcastInDim S32x2048x1024 ![0, 1, 2] bcast_S32x2048x1_S32x2048x1024_0_1_2 (Host.divf (broadcastInDim S32x2048x1 ![0, 1] bcast_S32x2048_S32x2048x1_0_1 (Host.reduceAdd z (constant S_ .f32 0x00000000#32) reducesTo_S32x2048x1024_S32x2048_d2 h_S_)) (broadcastInDim S32x2048x1 ![] bcast_S_S32x2048x1 (constant S_ .f32 0x44800000#32))))) (subf z (broadcastInDim S32x2048x1024 ![0, 1, 2] bcast_S32x2048x1_S32x2048x1024_0_1_2 (Host.divf (broadcastInDim S32x2048x1 ![0, 1] bcast_S32x2048_S32x2048x1_0_1 (Host.reduceAdd z (constant S_ .f32 0x00000000#32) reducesTo_S32x2048x1024_S32x2048_d2 h_S_)) (broadcastInDim S32x2048x1 ![] bcast_S_S32x2048x1 (constant S_ .f32 0x44800000#32)))))) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ PG shapeCasts_S1x1024_S1024)))) (broadcastInDim S32x2048x1024 ![0, 1, 2] bcast_S1x1x1024_S32x2048x1024_0_1_2 (broadcastInDim S1x1x1024 ![2] bcast_S1024_S1x1x1024_2 (shapeCast _ PB shapeCasts_S1x1024_S1024)))

theorem convA_at (CV CG CB) (b : Fin 32) (n : Fin 2048) (j : Fin 512) :
    convA CV CG CB (ix3 b n j) = normed (Ideal.ofBits FTy.f32 1140850688#32) (fun k => CV (ix3 b n k)) j * CG (ix2 0 j) + CB (ix2 0 j) := by
  unfold normed centred
  pointwise [convA]

theorem mixA_at (A AT v) (b : Fin 32) (n : Fin 2048) (j : Fin 1024) :
    mixA A AT v (ix3 b n j) = if h : j.val < 512 then AT (ix3 b n ⟨j, h⟩) * A (ix3 b n ⟨1024 + j, by omega⟩)
      else silu (v (ix3 b n ⟨j - 512, by omega⟩)) * A (ix3 b n ⟨1024 + j, by omega⟩) := by
  unfold silu
  pointwise [mixA]
  by_cases h : j.val < 512
  · rw [dif_pos h, dif_pos h]
  · rw [dif_neg h, dif_neg h]
    exact congrArg (fun k => _ * A (ix3 b n k)) (Fin.ext (by dsimp only; omega))

theorem resA_at (X mx GT W) (b : Fin 32) (n : Fin 2048) (d : Fin 1024) :
    resA X mx GT W (ix3 b n d) = resid (fun k => mx (ix3 b n k)) (fun k => X (ix3 b n k)) (fun k => GT (ix2 b k)) (fun k d => W (ix3 0 k d)) d := by
  unfold resid
  pointwise [resA]

theorem outA_at (z PG PB) (b : Fin 32) (n : Fin 2048) (d : Fin 1024) :
    outA z PG PB (ix3 b n d) = outRow (fun k => z (ix3 b n k)) (fun k => PG (ix2 0 k)) (fun k => PB (ix2 0 k)) d := by
  unfold outRow normed centred
  pointwise [outA]

/-- The four steps together are the result. -/
theorem whole (X GT A AT CV CG CB W PG PB) (b : Fin 32) (n : Fin 2048) (d : Fin 1024) :
    outA (resA X (mixA A AT (convA CV CG CB)) GT W) PG PB (ix3 b n d) = outArr X GT A AT CV CG CB W PG PB (ix3 b n d) := by
  refine (outA_at _ _ _ _ _ _).trans (congrArg (fun f => outRow f _ _ d) (funext fun k => ?_))
  refine (resA_at _ _ _ _ _ _ _).trans (congrArg (fun f => resid f _ _ _ k) (funext fun j => ?_))
  refine (mixA_at _ _ _ _ _ _).trans ?_
  simp only [convA_at]
  rfl

theorem out_at (m : (ℓ : Loc nD τ sig) → Buf (Elt Ideal) ℓ) (c : Dev nD) (b : Fin 32) (n : Fin 2048) (d : Fin 1024) :
    res_main_v67 m c (ix3 b n d) = outArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (ix3 b n d) :=
  whole _ _ _ _ _ _ _ _ _ _ b n d

end Cert.TailRef
end
-- ==== Proof.CtxMath.lean ====
module

public import proofs.«01_k».proof.Proof.Proj

/-! The context's keys and values, and the modulation, as plain arithmetic on extended reals. -/

@[expose] public section
noncomputable section
open Idealize.ShloMosaic Idealize.SL.Sem
namespace Cert.Ctx
open Cert.Proj

section
variable (X : FVec Ideal ⟨3, ![32, 256, 1024]⟩ .f32) (SH SC : FVec Ideal ⟨2, ![1, 1024]⟩ .f32)
    (W : FVec Ideal ⟨3, ![1, 1024, 2816]⟩ .f32)

/-- The modulated context row `n` of batch `b` against the key and value columns. -/
def kv (b : Fin 32) (n : Fin 256) (j : Fin 256) : EReal :=
  ∑ d, modulated (fun k => X (ix3 b n k)) (fun k => SH (ix2 0 k)) (fun k => SC (ix2 0 k)) d * W (ix3 0 d ⟨512 + j, by omega⟩)

/-- The keys, transposed. -/
def ctxKeys : FVec Ideal ⟨3, ![32, 128, 256]⟩ .bf16 :=
  fun i => kv X SH SC W (i 0) (i 2) ⟨(i 1).val, by have : (i 1).val < 128 := (i 1).isLt; omega⟩

/-- The values, each head twice. -/
def ctxVals : FVec Ideal ⟨3, ![32, 256, 256]⟩ .bf16 :=
  fun i => kv X SH SC W (i 0) (i 1)
    ⟨128 + (i 2).val / 128 * 64 + (i 2).val % 64, by have : (i 2).val < 256 := (i 2).isLt; omega⟩
end

/-- The modulation: the affine map of the condition's silu. -/
def modArr (C : FVec Ideal ⟨2, ![40, 1024]⟩ .f32) (W : FVec Ideal ⟨3, ![1, 1024, 3072]⟩ .f32) (B : FVec Ideal ⟨2, ![1, 3072]⟩ .f32) :
    FVec Ideal ⟨2, ![40, 3072]⟩ .f32 :=
  fun i => ∑ d, gate (C (ix2 (i 0) d)) (C (ix2 (i 0) d)) * W (ix3 0 d (i 1)) + B (ix2 0 (i 1))

end Cert.Ctx
end
-- ==== Proof.CtxKernel.lean ====
module

public import proofs.«01_k».proof.Proof.Gen.Kernel3Ideal.Value
public import Idealize.ShloMosaic.Lib.Claim
public import Idealize.ShloMosaic.Lib.StableHlo.RunRead
public import Idealize.ShloMosaic.Lib.Pipeline.ValueKit
public import proofs.«01_k».proof.Proof.CtxMath

/-! The context call's two result arrays, element by element. -/

@[expose] public section
set_option maxRecDepth 16384
noncomputable section
open Idealize.ShloMosaic Idealize.ShloMosaic.TcCoe Idealize.SL.Sem
namespace Cert.CtxKernel
open Cert.Kernel3Ideal Cert.Kernel3Ideal.Gen Cert.Proj Cert.Ctx
variable (m : (ℓ : Loc nD τ sig) → Buf (Elt Ideal) ℓ)

theorem idx : ∀ t : Fin cfg0.N, win0_0.index t = ![t.val, 0, 0] ∧ win0_1.index t = ![0, 0] ∧ win0_2.index t = ![0, 0] ∧
   win0_3.index t = ![0, 0] ∧ win0_4.index t = ![t.val, 0, 0] ∧ win0_5.index t = ![t.val, 0, 0] ∧ t.val < 32 :=
  (by decide +kernel : ∀ t : Fin grid0.N, _)

theorem tlt (t : Fin cfg0.N) : t.val < 32 := (idx t).2.2.2.2.2.2

/-- The batch of point `t`. -/
abbrev bt (t : Fin cfg0.N) : Fin 32 := ⟨t.val, tlt t⟩

theorem b0 (c : Dev nD) (t : Fin cfg0.N) (r : Fin 256) (d : Fin 1024) :
   (show FVec Ideal S1x256x1024 .f32 from iblk m c 0 t) (ix3 0 r d) = (show FVec Ideal S32x256x1024 .f32 from m ((c : Thread nD τ).loc main_arg0)) (ix3 (bt t) r d) := by
  blk_point [iblk, V, idx t]
theorem b1 (c : Dev nD) (t : Fin cfg0.N) (d : Fin 1024) :
   (show FVec Ideal S1x1024 .f32 from iblk m c 1 t) (ix2 0 d) = (show FVec Ideal S1x1024 .f32 from m ((c : Thread nD τ).loc main_arg1)) (ix2 0 d) := by
  blk_point [iblk, V, idx t]
theorem b2 (c : Dev nD) (t : Fin cfg0.N) (d : Fin 1024) :
   (show FVec Ideal S1x1024 .f32 from iblk m c 2 t) (ix2 0 d) = (show FVec Ideal S1x1024 .f32 from m ((c : Thread nD τ).loc main_arg2)) (ix2 0 d) := by
  blk_point [iblk, V, idx t]
theorem b3 (c : Dev nD) (t : Fin cfg0.N) (k : Fin 1024) (d : Fin 256) :
   (show FVec Ideal S1024x256 .bf16 from iblk m c 3 t) (ix2 k d) = (show FVec Ideal S1x1024x2816 .f32 from m ((c : Thread nD τ).loc main_arg3)) (ix3 0 k ⟨512 + d, by omega⟩) := by
  blk_point [iblk, V, idx t]

theorem eta3 {b c : ℕ} (x : (⟨3, ![1, b, c]⟩ : Shape).Idx) : x = ix3 0 (x 1) (x 2) := by
  funext k
  match k with
  | 0 => exact Subsingleton.elim (α := Fin 1) _ _
  | 1 => rfl
  | 2 => rfl

theorem pay5_at (x : FVec Ideal S1x256x1024 .f32) (sc sh : FVec Ideal S1x1024 .f32) (w : FVec Ideal S1024x256 .bf16) (r j : Fin 256) :
    k0_pay5 (F := Ideal) x sc sh w (ix2 r j)
      = ∑ d, modulated (fun k => x (ix3 0 r k)) (fun k => sh (ix2 0 k)) (fun k => sc (ix2 0 k)) d * w (ix2 d j) := by
  unfold modulated mean
  pointwise [k0_pay5]

/-- The context's projection of point `t`. -/
abbrev kvK (c : Dev nD) (t : Fin cfg0.N) : Fin 256 → Fin 256 → EReal :=
  kv (m ((c : Thread nD τ).loc main_arg0)) (m ((c : Thread nD τ).loc main_arg1)) (m ((c : Thread nD τ).loc main_arg2))
    (m ((c : Thread nD τ).loc main_arg3)) (bt t)

theorem kv_at (c : Dev nD) (t : Fin cfg0.N) (r j : Fin 256) :
    k0_pay5 (F := Ideal) (iblk m c 0 t) (iblk m c 2 t) (iblk m c 1 t) (iblk m c 3 t) (ix2 r j) = kvK m c t r j := by
  refine (pay5_at _ _ _ _ _ _).trans (Finset.sum_congr rfl fun d _ => ?_)
  have e0 := funext fun k => b0 m c t r k
  have e1 := funext fun k => b1 m c t k
  have e2 := funext fun k => b2 m c t k
  exact congrArg₂ (· * ·) (congrFun (congr (congr (congrArg modulated e0) e1) e2) d) (b3 m c t d j)

theorem lane (d : Fin 128) (a b : EReal) :
    Scalar.select (IntOp.cmpi CmpIPredicate.slt (BitVec.ofNat 32 d.val) 64#32) a b = if d.val < 64 then a else b := by
  have h : IntOp.cmpi CmpIPredicate.slt (BitVec.ofNat 32 d.val) 64#32 = if d.val < 64 then 1#1 else 0#1 := by
    revert d; decide
  rw [h]
  split <;> simp [Scalar.select]

section
variable (x : FVec Ideal S1x256x1024 .f32) (sc sh : FVec Ideal S1x1024 .f32) (w : FVec Ideal S1024x256 .bf16)

theorem pay6_at (d : Fin 128) (r : Fin 256) : (k0_pay6 (F := Ideal) x sc sh w (ix3 0 d r) : EReal) = k0_pay5 (F := Ideal) x sc sh w (ix2 r ⟨d, by omega⟩) := by
  pointwise [k0_pay6]

theorem pay7_at (r : Fin 256) (d : Fin 128) : k0_pay7 (F := Ideal) x sc sh w (ix2 r d) = k0_pay5 x sc sh w (ix2 r ⟨128 + d, by omega⟩) := by
  pointwise [k0_pay7]
end

theorem pay3_at (v : FVec Ideal S256x128 .f32) (r : Fin 256) (d : Fin 128) :
    k0_pay3 v (iota Kind.tc S1x128 32 [1] iota_S1x128_d1_w32) 64#32 (ix3 0 r d) = v (ix2 r ⟨d.val % 64, by omega⟩) := by
  pointwise [k0_pay3, k0_pay2, k0_pay1]
  rw [lane]
  split_ifs <;> exact congrArg (fun k => v (ix2 r k)) (Fin.ext (by dsimp only; omega))

theorem pay4_at (v : FVec Ideal S256x128 .f32) (r : Fin 256) (d : Fin 128) :
    k0_pay4 v (iota Kind.tc S1x128 32 [1] iota_S1x128_d1_w32) 64#32 (ix3 0 r d) = v (ix2 r ⟨64 + d.val % 64, by omega⟩) := by
  pointwise [k0_pay4, k0_pay2, k0_pay1]
  rw [lane]
  split_ifs <;> exact congrArg (fun k => v (ix2 r k)) (Fin.ext (by dsimp only; omega))

theorem o4 (c : Dev nD) (t : Fin cfg0.N) (d : Fin 128) (r : Fin 256) :
    out0_4 (iblk m c 0 t) (iblk m c 1 t) (iblk m c 2 t) (iblk m c 3 t) (ix3 0 d r) = kvK m c t r ⟨d, by omega⟩ := by
  unfold_out out0_4
  frame_out
  exact (pay6_at _ _ _ _ _ _).trans (kv_at m c t r _)

theorem o5 (c : Dev nD) (t : Fin cfg0.N) (r j : Fin 256) :
    out0_5 (iblk m c 0 t) (iblk m c 1 t) (iblk m c 2 t) (iblk m c 3 t) (ix3 0 r j) = kvK m c t r ⟨128 + j / 128 * 64 + j % 64, by omega⟩ := by
  unfold_out out0_5
  frame_out
  canon_tiles x h
  all_goals
    obtain rfl : r = x 1 := Fin.ext h1
    refine (congrArg _ (eta3 x)).trans ?_
  · refine (pay4_at _ (x 1) (x 2)).trans ((pay7_at _ _ _ _ _ _).trans ((kv_at m c t _ _).trans ?_))
    exact congrArg (kvK m c t (x 1)) (Fin.ext (by dsimp only; have : (x 2).val < 128 := (x 2).isLt; have : j.val = 128 + (x 2).val := h2; omega))
  · refine (pay3_at _ (x 1) (x 2)).trans ((pay7_at _ _ _ _ _ _).trans ((kv_at m c t _ _).trans ?_))
    exact congrArg (kvK m c t (x 1)) (Fin.ext (by dsimp only; have : (x 2).val < 128 := (x 2).isLt; have : j.val = (x 2).val := h2; omega))

theorem final4 (c : Dev nD) : (dats m 0 c).arrAt 4 (cfgs 0).N
    = ctxKeys (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t _ y => ?_
  blk_simp
  rw [after0_4]
  refine ((congrArg _ (eta3 y)).trans (o4 m c t (y 1) (y 2))).trans ?_
  unfold ctxKeys
  have h0 : (win0_4.blk t).view.emb y 0 = bt t := Fin.ext (by blk_simp [idx t]; first | done | omega)
  have h1 : (win0_4.blk t).view.emb y 1 = (y 1 : Fin 128) := Fin.ext (by blk_simp [idx t])
  have h2 : (win0_4.blk t).view.emb y 2 = (y 2 : Fin 256) := Fin.ext (by blk_simp [idx t])
  simp only [h0, h1, h2]

theorem final5 (c : Dev nD) : (dats m 0 c).arrAt 5 (cfgs 0).N
    = ctxVals (m ((c : Thread nD τ).loc main_arg0)) (m ((c : Thread nD τ).loc main_arg1)) (m ((c : Thread nD τ).loc main_arg2))
    (m ((c : Thread nD τ).loc main_arg3)) := by
  refine (dats m 0 c).arrAt_eq_of_covers 5 _ (by decide +kernel) fun t _ y => ?_
  blk_simp
  rw [after0_5]
  refine ((congrArg _ (eta3 y)).trans (o5 m c t (y 1) (y 2))).trans ?_
  unfold ctxVals
  have h0 : (win0_5.blk t).view.emb y 0 = bt t := Fin.ext (by blk_simp [idx t]; first | done | omega)
  have h1 : (win0_5.blk t).view.emb y 1 = (y 1 : Fin 256) := Fin.ext (by blk_simp [idx t])
  have h2 : (win0_5.blk t).view.emb y 2 = (y 2 : Fin 256) := Fin.ext (by blk_simp [idx t])
  simp only [h0, h1, h2]

end Cert.CtxKernel
end
-- ==== Proof.CtxRef.lean ====
module

public import proofs.«01_k».proof.Proof.Gen.Reference3Ideal.Run
public import proofs.«01_k».proof.Proof.CtxMath

/-! The context's keys and values in the reference, element by element. -/

@[expose] public section
set_option maxRecDepth 16384
noncomputable section
open Idealize.ShloMosaic Idealize.ShloMosaic.TcCoe Idealize.SL.Sem
namespace Cert.CtxRef
open Cert.Reference3Ideal Cert.Reference3Ideal.Gen Cert.Reference3Ideal.Value Cert.Proj Cert.Ctx

section
variable (X : FVec Ideal S32x256x1024 .f32) (SH SC : FVec Ideal S1x1024 .f32) (W : FVec Ideal S1x1024x2816 .f32)

/-- The projection of every context row. -/
def projA : FVec Ideal S32x256x256 .f32 :=
  (Host.dotGeneral dot_S32x256x1024_S1024x256_S32x256x256_2_0_01_1_n_n none (addf (mulf (mulf (subf X (broadcastInDim S32x256x1024 ![0, 1, 2] bcast_S32x256x1_S32x256x1024_0_1_2 (Host.divf (broadcastInDim S32x256x1 ![0, 1] bcast_S32x256_S32x256x1_0_1 (Host.reduceAdd X (constant S_ .f32 0x00000000#32) reducesTo_S32x256x1024_S32x256_d2 h_S_)) (broadcastInDim S32x256x1 ![] bcast_S_S32x256x1 (constant S_ .f32 0x44800000#32))))) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (subf X (broadcastInDim S32x256x1024 ![0, 1, 2] bcast_S32x256x1_S32x256x1024_0_1_2 (Host.divf (broadcastInDim S32x256x1 ![0, 1] bcast_S32x256_S32x256x1_0_1 (Host.reduceAdd X (constant S_ .f32 0x00000000#32) reducesTo_S32x256x1024_S32x256_d2 h_S_)) (broadcastInDim S32x256x1 ![] bcast_S_S32x256x1 (constant S_ .f32 0x44800000#32))))) (subf X (broadcastInDim S32x256x1024 ![0, 1, 2] bcast_S32x256x1_S32x256x1024_0_1_2 (Host.divf (broadcastInDim S32x256x1 ![0, 1] bcast_S32x256_S32x256x1_0_1 (Host.reduceAdd X (constant S_ .f32 0x00000000#32) reducesTo_S32x256x1024_S32x256_d2 h_S_)) (broadcastInDim S32x256x1 ![] bcast_S_S32x256x1 (constant S_ .f32 0x44800000#32)))))) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ SC shapeCasts_S1x1024_S1024))))) (broadcastInDim S32x256x1024 ![0, 1, 2] bcast_S1x1x1024_S32x256x1024_0_1_2 (broadcastInDim S1x1x1024 ![2] bcast_S1024_S1x1x1024_2 (shapeCast _ SH shapeCasts_S1x1024_S1024)))) (extractStridedSlice S1024x256 ![0, 512] (shapeCast _ W shapeCasts_S1x1024x2816_S1024x2816) slices_S1024x2816_S1024x256_0_512))

/-- The transposed keys of a projection. -/
def keysA (p : FVec Ideal S32x256x256 .f32) : FVec Ideal S32x128x256 .bf16 :=
  truncf .bf16 (transpose S32x128x256 [0, 2, 1] (extractStridedSlice S32x256x128 ![0, 0, 0] p slices_S32x256x256_S32x256x128_0_0_0) transposes_S32x256x128_S32x128x256_0_2_1) bitsLt_bf16_f32

/-- The doubled values of a projection. -/
def valsA (p : FVec Ideal S32x256x256 .f32) : FVec Ideal S32x256x256 .bf16 :=
  truncf .bf16 ((concatenate S32x256x256 2 [⟨S32x256x64, ((extractStridedSlice S32x256x64 ![0, 0, 0] (extractStridedSlice S32x256x128 ![0, 0, 128] p slices_S32x256x256_S32x256x128_0_0_128) slices_S32x256x128_S32x256x64_0_0_0) : (⟨S32x256x64, .f32⟩ : BufTy).Contents (Elt Ideal))⟩, ⟨S32x256x64, ((extractStridedSlice S32x256x64 ![0, 0, 0] (extractStridedSlice S32x256x128 ![0, 0, 128] p slices_S32x256x256_S32x256x128_0_0_128) slices_S32x256x128_S32x256x64_0_0_0) : (⟨S32x256x64, .f32⟩ : BufTy).Contents (Elt Ideal))⟩, ⟨S32x256x64, ((extractStridedSlice S32x256x64 ![0, 0, 64] (extractStridedSlice S32x256x128 ![0, 0, 128] p slices_S32x256x256_S32x256x128_0_0_128) slices_S32x256x128_S32x256x64_0_0_64) : (⟨S32x256x64, .f32⟩ : BufTy).Contents (Elt Ideal))⟩, ⟨S32x256x64, ((extractStridedSlice S32x256x64 ![0, 0, 64] (extractStridedSlice S32x256x128 ![0, 0, 128] p slices_S32x256x256_S32x256x128_0_0_128) slices_S32x256x128_S32x256x64_0_0_64) : (⟨S32x256x64, .f32⟩ : BufTy).Contents (Elt Ideal))⟩] concatenates_S32x256x64_S32x256x64_S32x256x64_S32x256x64_S32x256x256_d2 : (⟨S32x256x256, .f32⟩ : BufTy).Contents (Elt Ideal))) bitsLt_bf16_f32

theorem projA_at (b : Fin 32) (n j : Fin 256) : projA X SH SC W (ix3 b n j) = kv X SH SC W b n j := by
  unfold kv modulated mean
  pointwise [projA]

theorem keysA_at (p : FVec Ideal S32x256x256 .f32) (b : Fin 32) (d : Fin 128) (n : Fin 256) :
    keysA p (ix3 b d n) = p (ix3 b n ⟨d, by omega⟩) := by
  pointwise [keysA]

theorem valsA_at (p : FVec Ideal S32x256x256 .f32) (b : Fin 32) (n j : Fin 256) :
    valsA p (ix3 b n j) = p (ix3 b n ⟨128 + j / 128 * 64 + j % 64, by omega⟩) := by
  pointwise [valsA]
  split_ifs <;> exact congrArg (fun k => p (ix3 b n k)) (Fin.ext (by dsimp only; omega))

theorem keys_whole (b : Fin 32) (d : Fin 128) (n : Fin 256) : keysA (projA X SH SC W) (ix3 b d n) = ctxKeys X SH SC W (ix3 b d n) :=
  (keysA_at _ _ _ _).trans (projA_at _ _ _ _ _ _ _)

theorem vals_whole (b : Fin 32) (n j : Fin 256) : valsA (projA X SH SC W) (ix3 b n j) = ctxVals X SH SC W (ix3 b n j) :=
  (valsA_at _ _ _ _).trans (projA_at _ _ _ _ _ _ _)
end

end Cert.CtxRef
end
-- ==== Proof.ModKernel.lean ====
module

public import proofs.«01_k».proof.Proof.Gen.Kernel4Ideal.Value
public import Idealize.ShloMosaic.Lib.Claim
public import Idealize.ShloMosaic.Lib.StableHlo.RunRead
public import Idealize.ShloMosaic.Lib.Pipeline.ValueKit
public import proofs.«01_k».proof.Proof.CtxMath

/-! The modulation call's result array, element by element. -/

@[expose] public section
set_option maxRecDepth 16384
noncomputable section
open Idealize.ShloMosaic Idealize.ShloMosaic.TcCoe Idealize.SL.Sem
namespace Cert.ModKernel
open Cert.Kernel4Ideal Cert.Kernel4Ideal.Gen Cert.Proj Cert.Ctx
variable (m : (ℓ : Loc nD τ sig) → Buf (Elt Ideal) ℓ)

theorem idx : ∀ t : Fin cfg0.N, win0_0.index t = ![0, 0] ∧ win0_1.index t = ![0, t.val] ∧ win0_2.index t = ![0, t.val] ∧
   win0_3.index t = ![0, t.val] ∧ t.val < 6 :=
  (by decide +kernel : ∀ t : Fin grid0.N, _)

theorem tlt (t : Fin cfg0.N) : t.val < 6 := (idx t).2.2.2.2

/-- Column `j` of point `t`. -/
abbrev ct (t : Fin cfg0.N) (j : Fin 512) : Fin 3072 := ⟨t.val * 512 + j.val, by have := tlt t; omega⟩

theorem b0 (c : Dev nD) (t : Fin cfg0.N) (r : Fin 40) (d : Fin 1024) :
   (show FVec Ideal S40x1024 .f32 from iblk m c 0 t) (ix2 r d) = (show FVec Ideal S40x1024 .f32 from m ((c : Thread nD τ).loc main_arg0)) (ix2 r d) := by
  blk_point [iblk, V, idx t]
theorem b1 (c : Dev nD) (t : Fin cfg0.N) (d : Fin 1024) (j : Fin 512) :
   (show FVec Ideal S1024x512 .f32 from iblk m c 1 t) (ix2 d j) = (show FVec Ideal S1x1024x3072 .f32 from m ((c : Thread nD τ).loc main_arg1)) (ix3 0 d (ct t j)) := by
  blk_point [iblk, V, idx t]
theorem b2 (c : Dev nD) (t : Fin cfg0.N) (j : Fin 512) :
   (show FVec Ideal S1x512 .f32 from iblk m c 2 t) (ix2 0 j) = (show FVec Ideal S1x3072 .f32 from m ((c : Thread nD τ).loc main_arg2)) (ix2 0 (ct t j)) := by
  blk_point [iblk, V, idx t]

theorem eta2 {b c : ℕ} (x : (⟨2, ![b, c]⟩ : Shape).Idx) : x = ix2 (x 0) (x 1) := by
  funext k
  match k with
  | 0 => rfl
  | 1 => rfl

theorem logistic_eq (x : EReal) : Ideal.logistic x = Ideal.div 1 (1 + Ideal.exp (-x)) := rfl

theorem pay1_at (x : FVec Ideal S40x1024 .f32) (w : FVec Ideal S1024x512 .f32) (b : FVec Ideal S1x512 .f32) (r : Fin 40) (j : Fin 512) :
    k0_pay1 (F := Ideal) x w b (ix2 r j) = ∑ d, gate (x (ix2 r d)) (x (ix2 r d)) * w (ix2 d j) + b (ix2 0 j) := by
  simp only [gate, ← logistic_eq]
  pointwise [k0_pay1]

theorem o3 (c : Dev nD) (t : Fin cfg0.N) (r : Fin 40) (j : Fin 512) :
    out0_3 (iblk m c 0 t) (iblk m c 1 t) (iblk m c 2 t) (ix2 r j) = modArr (m ((c : Thread nD τ).loc main_arg0)) (m ((c : Thread nD τ).loc main_arg1)) (m ((c : Thread nD τ).loc main_arg2)) (ix2 r (ct t j)) := by
  unfold out0_3
  frame_out
  refine (pay1_at _ _ _ _ _).trans (congrArg₂ (· + ·) (Finset.sum_congr rfl fun d _ => ?_) (b2 m c t j))
  exact congrArg₂ (· * ·) (congrArg₂ gate (b0 m c t r d) (b0 m c t r d)) (b1 m c t d j)

theorem final3 (c : Dev nD) : (dats m 0 c).arrAt 3 (cfgs 0).N
    = modArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine ((congrArg _ (eta2 y)).trans (o3 m c t (y 0) (y 1))).trans ?_
  unfold modArr
  have h0 : (win0_3.blk t).view.emb y 0 = (y 0 : Fin 40) := Fin.ext (by blk_simp [idx t])
  have h1 : (win0_3.blk t).view.emb y 1 = ct t (y 1) := Fin.ext (by blk_simp [idx t])
  simp only [h0, h1]
  rfl

end Cert.ModKernel
end
-- ==== Proof.ModRef.lean ====
module

public import proofs.«01_k».proof.Proof.Gen.Reference4Ideal.Run
public import proofs.«01_k».proof.Proof.CtxMath

/-! The modulation in the reference, element by element. -/

@[expose] public section
set_option maxRecDepth 16384
noncomputable section
open Idealize.ShloMosaic Idealize.ShloMosaic.TcCoe Idealize.SL.Sem
namespace Cert.ModRef
open Cert.Reference4Ideal Cert.Reference4Ideal.Gen Cert.Reference4Ideal.Value Cert.Proj Cert.Ctx

/-- The modulation. -/
def modA (C : FVec Ideal S40x1024 .f32) (W : FVec Ideal S1x1024x3072 .f32) (B : FVec Ideal S1x3072 .f32) : FVec Ideal S40x3072 .f32 :=
  addf (Host.dotGeneral dot_S40x1024_S1024x3072_S40x3072_1_0_0_1_n_n none (mulf C (Host.divf (broadcastInDim S40x1024 ![] bcast_S_S40x1024 (constant S_ .f32 0x3F800000#32)) (addf (broadcastInDim S40x1024 ![] bcast_S_S40x1024 (constant S_ .f32 0x3F800000#32)) (Host.exp (Host.negf C))))) (shapeCast _ W shapeCasts_S1x1024x3072_S1024x3072)) (broadcastInDim S40x3072 ![0, 1] bcast_S1x3072_S40x3072_0_1 (broadcastInDim S1x3072 ![1] bcast_S3072_S1x3072_1 (shapeCast _ B shapeCasts_S1x3072_S3072)))

theorem modA_at (C W B) (r : Fin 40) (j : Fin 3072) : modA C W B (ix2 r j) = modArr C W B (ix2 r j) := by
  unfold modArr gate
  pointwise [modA]

end Cert.ModRef
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Value
public import proofs.«01_k».proof.Proof.Gen.Reference4Ideal
public import proofs.«01_k».proof.Proof.Gen.Reference4Ideal.Run
public import proofs.«01_k».proof.Proof.KernelVals
public import proofs.«01_k».proof.Proof.RefVals
public import proofs.«01_k».proof.Proof.RefKeys
public import proofs.«01_k».proof.Proof.TailKernel
public import proofs.«01_k».proof.Proof.TailRef
public import proofs.«01_k».proof.Proof.CtxKernel
public import proofs.«01_k».proof.Proof.CtxRef
public import proofs.«01_k».proof.Proof.ModKernel
public import proofs.«01_k».proof.Proof.ModRef
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

open Cert.Proj Cert.RefVals in
/-- Both programs' results are the three arrays of the input projection. -/
theorem algebraic : Cert.algebraic_KernelIdeal_ReferenceIdeal := by
  intro m g m' g' _ hm
  refine ⟨fun c => actArr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)),
    fun c => keyArr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)),
    fun c => valArr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m g)
    obtain ⟨h6, h7, h8, ha⟩ := h c
    exact ⟨h6.trans (Cert.KernelVals.final6 m c), h7.trans (Cert.KernelVals.final7 m c),
      h8.trans (Cert.KernelVals.final8 m c), ha⟩
  · refine (θ_run Cert.ReferenceIdeal.defs _ _).mono (fun r h c => ?_) (Cert.ReferenceIdeal.Value.run (F := Ideal) m' g')
    obtain ⟨h6, h7, h8, ha⟩ := h c
    obtain ⟨e0, e1, e2, e3⟩ := hm c
    let V := StableHlo.launchContents m' c
    refine ⟨h6.trans ?_, h7.trans ?_, h8.trans ?_, ha⟩
    · refine (funext fun i => ?_ : _ = actArr (V (Proc.devRef .tc Cert.ReferenceIdeal.main_arg0)) (V (Proc.devRef .tc Cert.ReferenceIdeal.main_arg1))
        (V (Proc.devRef .tc Cert.ReferenceIdeal.main_arg2)) (V (Proc.devRef .tc Cert.ReferenceIdeal.main_arg3))).trans
        (congr (congr (congr (congrArg actArr e0) e1) e2) e3)
      obtain ⟨a, b, d, rfl⟩ : ∃ a b d, i = ix3 a b d := ⟨i 0, i 1, i 2, eq_ix3 i⟩
      exact act_at V a b d
    · refine (funext fun i => ?_ : _ = keyArr (V (Proc.devRef .tc Cert.ReferenceIdeal.main_arg0)) (V (Proc.devRef .tc Cert.ReferenceIdeal.main_arg1))
        (V (Proc.devRef .tc Cert.ReferenceIdeal.main_arg2)) (V (Proc.devRef .tc Cert.ReferenceIdeal.main_arg3))).trans
        (congr (congr (congr (congrArg keyArr e0) e1) e2) e3)
      obtain ⟨a, b, d, rfl⟩ : ∃ a b d, i = ix3 a b d := ⟨i 0, i 1, i 2, eq_ix3 i⟩
      exact keys_at V a b d
    · refine (funext fun i => ?_ : _ = valArr (V (Proc.devRef .tc Cert.ReferenceIdeal.main_arg0)) (V (Proc.devRef .tc Cert.ReferenceIdeal.main_arg1))
        (V (Proc.devRef .tc Cert.ReferenceIdeal.main_arg2)) (V (Proc.devRef .tc Cert.ReferenceIdeal.main_arg3))).trans
        (congr (congr (congr (congrArg valArr e0) e1) e2) e3)
      obtain ⟨a, b, d, rfl⟩ : ∃ a b d, i = ix3 a b d := ⟨i 0, i 1, i 2, eq_ix3 i⟩
      exact vals_at V a b d

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Tail in
/-- Both programs' result is the one array of the mixer's end. -/
theorem algebraic2 : Cert.algebraic_Kernel2Ideal_Reference2Ideal := by
  intro m g m' g' _ hm
  refine ⟨fun c => outArr (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg6)) (m ((c : Thread Cert.Kernel2Ideal.nD Cert.Kernel2Ideal.τ).loc Cert.Kernel2Ideal.main_arg7)) (m ((c : Thread Cert.Kernel2Ideal.nD Cert.Kernel2Ideal.τ).loc Cert.Kernel2Ideal.main_arg8)) (m ((c : Thread Cert.Kernel2Ideal.nD Cert.Kernel2Ideal.τ).loc Cert.Kernel2Ideal.main_arg9)), ?_, ?_⟩
  · refine (θ_run Cert.Kernel2Ideal.defs _ _).mono (fun r h c => ?_) (Cert.Kernel2Ideal.Value.run_blocks (F := Ideal) m g)
    obtain ⟨h10, ha⟩ := h c
    exact ⟨h10.trans (Cert.TailKernel.final10 m c), ha⟩
  · refine (θ_run Cert.Reference2Ideal.defs _ _).mono (fun r h c => ?_) (Cert.Reference2Ideal.Value.run (F := Ideal) m' g')
    obtain ⟨h10, ha⟩ := h c
    obtain ⟨e0, e1, e2, e3, e4, e5, e6, e7, e8, e9⟩ := hm c
    refine ⟨h10.trans ?_, ha⟩
    refine (funext fun i => ?_ : _ = outArr (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) (m' ((c : Thread Cert.Reference2Ideal.nD Cert.Reference2Ideal.τ).loc Cert.Reference2Ideal.main_arg4)) (m' ((c : Thread Cert.Reference2Ideal.nD Cert.Reference2Ideal.τ).loc Cert.Reference2Ideal.main_arg5)) (m' ((c : Thread Cert.Reference2Ideal.nD Cert.Reference2Ideal.τ).loc Cert.Reference2Ideal.main_arg6)) (m' ((c : Thread Cert.Reference2Ideal.nD Cert.Reference2Ideal.τ).loc Cert.Reference2Ideal.main_arg7)) (m' ((c : Thread Cert.Reference2Ideal.nD Cert.Reference2Ideal.τ).loc Cert.Reference2Ideal.main_arg8)) (m' ((c : Thread Cert.Reference2Ideal.nD Cert.Reference2Ideal.τ).loc Cert.Reference2Ideal.main_arg9))).trans
      (congr (congr (congr (congr (congr (congr (congr (congr (congr (congrArg outArr e0) e1) e2) e3) e4) e5) e6) e7) e8) e9)
    obtain ⟨a, b, d, rfl⟩ : ∃ a b d, i = ix3 a b d := ⟨i 0, i 1, i 2, eq_ix3 i⟩
    exact Cert.TailRef.out_at m' c a b d

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

open Cert.Ctx in
/-- Both programs' results are the context's keys and values. -/
theorem algebraic3 : Cert.algebraic_Kernel3Ideal_Reference3Ideal := by
  intro m g m' g' _ hm
  refine ⟨fun c => ctxKeys (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)),
    fun c => ctxVals (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), ?_, ?_⟩
  · refine (θ_run Cert.Kernel3Ideal.defs _ _).mono (fun r h c => ?_) (Cert.Kernel3Ideal.Value.run_blocks (F := Ideal) m g)
    obtain ⟨h4, h5, ha⟩ := h c
    exact ⟨h4.trans (Cert.CtxKernel.final4 m c), h5.trans (Cert.CtxKernel.final5 m c), ha⟩
  · refine (θ_run Cert.Reference3Ideal.defs _ _).mono (fun r h c => ?_) (Cert.Reference3Ideal.Value.run (F := Ideal) m' g')
    obtain ⟨h4, h5, ha⟩ := h c
    obtain ⟨e0, e1, e2, e3⟩ := hm c
    refine ⟨h4.trans ?_, h5.trans ?_, ha⟩
    · refine (funext fun i => ?_ : _ = ctxKeys (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3))).trans
        (congr (congr (congr (congrArg ctxKeys e0) e1) e2) e3)
      obtain ⟨a, b, d, rfl⟩ : ∃ a b d, i = ix3 a b d := ⟨i 0, i 1, i 2, eq_ix3 i⟩
      exact Cert.CtxRef.keys_whole _ _ _ _ a b d
    · refine (funext fun i => ?_ : _ = ctxVals (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3))).trans
        (congr (congr (congr (congrArg ctxVals e0) e1) e2) e3)
      obtain ⟨a, b, d, rfl⟩ : ∃ a b d, i = ix3 a b d := ⟨i 0, i 1, i 2, eq_ix3 i⟩
      exact Cert.CtxRef.vals_whole _ _ _ _ a b d

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Ctx in
/-- Both programs' result is the modulation. -/
theorem algebraic4 : Cert.algebraic_Kernel4Ideal_Reference4Ideal := by
  intro m g m' g' _ hm
  refine ⟨fun c => modArr (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)), ?_, ?_⟩
  · refine (θ_run Cert.Kernel4Ideal.defs _ _).mono (fun r h c => ?_) (Cert.Kernel4Ideal.Value.run_blocks (F := Ideal) m g)
    obtain ⟨h3, ha⟩ := h c
    exact ⟨h3.trans (Cert.ModKernel.final3 m c), ha⟩
  · refine (θ_run Cert.Reference4Ideal.defs _ _).mono (fun r h c => ?_) (Cert.Reference4Ideal.Value.run (F := Ideal) m' g')
    obtain ⟨h3, ha⟩ := h c
    obtain ⟨e0, e1, e2⟩ := hm c
    refine ⟨h3.trans ?_, ha⟩
    refine (funext fun i => ?_ : _ = modArr (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2))).trans
      (congr (congr (congrArg modArr e0) e1) e2)
    obtain ⟨a, b, rfl⟩ : ∃ a b, i = ix2 a b := ⟨i 0, i 1, Cert.ModKernel.eta2 i⟩
    exact Cert.ModRef.modA_at _ _ _ a b

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    IdealRules.named_const.statement Cert.KernelIdeal.κ "qscale" .f32 _ _ rfl,
    algebraic, trivial, algebraic2, trivial, algebraic3, trivial, algebraic4⟩

end Cert.Proof

end
